-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![16384, 1]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![16384, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S512x256 .f32) (main_arg1 : FVec F S256x64 .f32) (main_arg2 : IVec S512x1 32) (main_arg3 : FVec F S2x256x512 .f32) (main_arg4 : FVec F S256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  main_v8
-- ==== Pre_finite_ReferenceIdeal.lean ====
abbrev S16384x256 : Shape := ⟨2, ![16384, 256]⟩
abbrev S256x64 : Shape := ⟨2, ![256, 64]⟩
abbrev S16384x1 : Shape := ⟨2, ![16384, 1]⟩
abbrev S64x256x512 : Shape := ⟨3, ![64, 256, 512]⟩
abbrev S256x512 : Shape := ⟨2, ![256, 512]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S16384x256 .f32) (main_arg1 : FVec F S256x64 .f32) (main_arg2 : IVec S16384x1 32) (main_arg3 : FVec F S64x256x512 .f32) (main_arg4 : FVec F S256x512 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  main_v8
-- ==== Kernel.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S256x512 : Shape := ⟨2, ![256, 512]⟩
abbrev S512x512 : Shape := ⟨2, ![512, 512]⟩
abbrev S2x2x256x512 : Shape := ⟨4, ![2, 2, 256, 512]⟩
abbrev S2 : Shape := ⟨1, ![2]⟩
abbrev S_ : Shape := ⟨0, ![]⟩
abbrev S512x64 : Shape := ⟨2, ![512, 64]⟩
abbrev S512 : Shape := ⟨1, ![512]⟩
abbrev S1x2x256x512 : Shape := ⟨4, ![1, 2, 256, 512]⟩
abbrev S1 : Shape := ⟨1, ![1]⟩
abbrev S1024x512 : Shape := ⟨2, ![1024, 512]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S2x256x512, .f32⟩
  | .hbm, ⟨4, _⟩ => ⟨S256x512, .f32⟩
  | .hbm, ⟨5, _⟩ => ⟨S512x512, .f32⟩
  | .local _ .vmem, ⟨0, _⟩ => ⟨S512x256, .f32⟩
  | .local _ .vmem, ⟨1, _⟩ => ⟨S256x64, .f32⟩
  | .local _ .vmem, ⟨2, _⟩ => ⟨S512x1, .i32⟩
  | .local _ .vmem, ⟨3, _⟩ => ⟨S2x256x512, .f32⟩
  | .local _ .vmem, ⟨4, _⟩ => ⟨S256x512, .f32⟩
  | .local _ .vmem, ⟨5, _⟩ => ⟨S512x512, .f32⟩
  | .local _ .vmem, ⟨6, _⟩ => ⟨S2x2x256x512, .bf16⟩
  | .local _ .vmem, ⟨7, _⟩ => ⟨S2x2x256x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_37 : BitVec 32 := 1#32
  let v48 : BitVec 32 := Scalar.muli v7 c1_i32_37
  let v49 : BitVec 32 := Scalar.addi c0_i32_38 v48
  v49.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_49 : BitVec 32 := 1#32
  let v58 : BitVec 32 := Scalar.muli v5 c1_i32_49
  let v59 : BitVec 32 := Scalar.addi c0_i32_50 v58
  v59.toNat
def k0_dev5 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_115 : BitVec 32 := 1#32
  let v120 : BitVec 32 := Scalar.muli v5 c1_i32_115
  let v121 : BitVec 32 := Scalar.addi c0_i32_116 v120
  v121.toNat
def k0_dev6 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_118 : BitVec 32 := 1#32
  let v122 : BitVec 32 := Scalar.muli v7 c1_i32_118
  let v123 : BitVec 32 := Scalar.addi c0_i32_119 v122
  v123.toNat
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_126 : BitVec 32 := 1#32
  let v124 : BitVec 32 := Scalar.muli v7 c1_i32_126
  let v125 : BitVec 32 := Scalar.addi c0_i32_127 v124
  v125.toNat
def k0_dev8 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_140 : BitVec 32 := 1#32
  let v134 : BitVec 32 := Scalar.muli v5 c1_i32_140
  let v135 : BitVec 32 := Scalar.addi c0_i32_141 v134
  v135.toNat
def k0_dev9 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_220 : BitVec 32 := 1#32
  let v223 : BitVec 32 := Scalar.muli v5 c1_i32_220
  let v224 : BitVec 32 := Scalar.addi c0_i32_221 v223
  v224.toNat
def k0_dev10 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_223 : BitVec 32 := 1#32
  let v225 : BitVec 32 := Scalar.muli v7 c1_i32_223
  let v226 : BitVec 32 := Scalar.addi c0_i32_224 v225
  v226.toNat
def k0_dev11 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_231 : BitVec 32 := 1#32
  let v227 : BitVec 32 := Scalar.muli v7 c1_i32_231
  let v228 : BitVec 32 := Scalar.addi c0_i32_232 v227
  v228.toNat
def k0_dev12 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_245 : BitVec 32 := 1#32
  let v237 : BitVec 32 := Scalar.muli v5 c1_i32_245
  let v238 : BitVec 32 := Scalar.addi c0_i32_246 v237
  v238.toNat
def k0_dev13 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_326 : BitVec 32 := 1#32
  let v326 : BitVec 32 := Scalar.muli v5 c1_i32_326
  let v327 : BitVec 32 := Scalar.addi c0_i32_327 v326
  v327.toNat
def k0_dev14 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_329 : BitVec 32 := 1#32
  let v328 : BitVec 32 := Scalar.muli v7 c1_i32_329
  let v329 : BitVec 32 := Scalar.addi c0_i32_330 v328
  v329.toNat
def k0_dev15 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_337 : BitVec 32 := 1#32
  let v330 : BitVec 32 := Scalar.muli v7 c1_i32_337
  let v331 : BitVec 32 := Scalar.addi c0_i32_338 v330
  v331.toNat
def k0_dev16 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_351 : BitVec 32 := 1#32
  let v340 : BitVec 32 := Scalar.muli v5 c1_i32_351
  let v341 : BitVec 32 := Scalar.addi c0_i32_352 v340
  v341.toNat
def k0_dev17 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_431 : BitVec 32 := 1#32
  let v429 : BitVec 32 := Scalar.muli v5 c1_i32_431
  let v430 : BitVec 32 := Scalar.addi c0_i32_432 v429
  v430.toNat
def k0_dev18 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_434 : BitVec 32 := 1#32
  let v431 : BitVec 32 := Scalar.muli v7 c1_i32_434
  let v432 : BitVec 32 := Scalar.addi c0_i32_435 v431
  v432.toNat
def k0_dev19 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_442 : BitVec 32 := 1#32
  let v433 : BitVec 32 := Scalar.muli v7 c1_i32_442
  let v434 : BitVec 32 := Scalar.addi c0_i32_443 v433
  v434.toNat
def k0_dev20 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_456 : BitVec 32 := 1#32
  let v443 : BitVec 32 := Scalar.muli v5 c1_i32_456
  let v444 : BitVec 32 := Scalar.addi c0_i32_457 v443
  v444.toNat
def k0_dev21 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_536 : BitVec 32 := 1#32
  let v532 : BitVec 32 := Scalar.muli v5 c1_i32_536
  let v533 : BitVec 32 := Scalar.addi c0_i32_537 v532
  v533.toNat
def k0_dev22 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_539 : BitVec 32 := 1#32
  let v534 : BitVec 32 := Scalar.muli v7 c1_i32_539
  let v535 : BitVec 32 := Scalar.addi c0_i32_540 v534
  v535.toNat
def k0_dev23 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_547 : BitVec 32 := 1#32
  let v536 : BitVec 32 := Scalar.muli v7 c1_i32_547
  let v537 : BitVec 32 := Scalar.addi c0_i32_548 v536
  v537.toNat
def k0_dev24 (d0 : Dev nD) : Nat :=
  let c0_i32_562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_561 : BitVec 32 := 1#32
  let v546 : BitVec 32 := Scalar.muli v5 c1_i32_561
  let v547 : BitVec 32 := Scalar.addi c0_i32_562 v546
  v547.toNat
def k0_dev25 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_641 : BitVec 32 := 1#32
  let v635 : BitVec 32 := Scalar.muli v5 c1_i32_641
  let v636 : BitVec 32 := Scalar.addi c0_i32_642 v635
  v636.toNat
def k0_dev26 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_644 : BitVec 32 := 1#32
  let v637 : BitVec 32 := Scalar.muli v7 c1_i32_644
  let v638 : BitVec 32 := Scalar.addi c0_i32_645 v637
  v638.toNat
def k0_dev27 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_652 : BitVec 32 := 1#32
  let v639 : BitVec 32 := Scalar.muli v7 c1_i32_652
  let v640 : BitVec 32 := Scalar.addi c0_i32_653 v639
  v640.toNat
def k0_dev28 (d0 : Dev nD) : Nat :=
  let c0_i32_667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_666 : BitVec 32 := 1#32
  let v649 : BitVec 32 := Scalar.muli v5 c1_i32_666
  let v650 : BitVec 32 := Scalar.addi c0_i32_667 v649
  v650.toNat
def k0_dev29 (d0 : Dev nD) : Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_746 : BitVec 32 := 1#32
  let v738 : BitVec 32 := Scalar.muli v5 c1_i32_746
  let v739 : BitVec 32 := Scalar.addi c0_i32_747 v738
  v739.toNat
def k0_dev30 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_749 : BitVec 32 := 1#32
  let v740 : BitVec 32 := Scalar.muli v7 c1_i32_749
  let v741 : BitVec 32 := Scalar.addi c0_i32_750 v740
  v741.toNat
def k0_dev31 (d0 : Dev nD) : Nat :=
  let c0_i32_758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_757 : BitVec 32 := 1#32
  let v742 : BitVec 32 := Scalar.muli v7 c1_i32_757
  let v743 : BitVec 32 := Scalar.addi c0_i32_758 v742
  v743.toNat
def k0_dev32 (d0 : Dev nD) : Nat :=
  let c0_i32_772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_771 : BitVec 32 := 1#32
  let v752 : BitVec 32 := Scalar.muli v5 c1_i32_771
  let v753 : BitVec 32 := Scalar.addi c0_i32_772 v752
  v753.toNat
def k0_dev33 (d0 : Dev nD) : Nat :=
  let c0_i32_852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_851 : BitVec 32 := 1#32
  let v841 : BitVec 32 := Scalar.muli v5 c1_i32_851
  let v842 : BitVec 32 := Scalar.addi c0_i32_852 v841
  v842.toNat
def k0_dev34 (d0 : Dev nD) : Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_854 : BitVec 32 := 1#32
  let v843 : BitVec 32 := Scalar.muli v7 c1_i32_854
  let v844 : BitVec 32 := Scalar.addi c0_i32_855 v843
  v844.toNat
def k0_dev35 (d0 : Dev nD) : Nat :=
  let c0_i32_863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_862 : BitVec 32 := 1#32
  let v845 : BitVec 32 := Scalar.muli v7 c1_i32_862
  let v846 : BitVec 32 := Scalar.addi c0_i32_863 v845
  v846.toNat
def k0_dev36 (d0 : Dev nD) : Nat :=
  let c0_i32_877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_876 : BitVec 32 := 1#32
  let v855 : BitVec 32 := Scalar.muli v5 c1_i32_876
  let v856 : BitVec 32 := Scalar.addi c0_i32_877 v855
  v856.toNat
def k0_dev37 (d0 : Dev nD) : Nat :=
  let c0_i32_957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_956 : BitVec 32 := 1#32
  let v944 : BitVec 32 := Scalar.muli v5 c1_i32_956
  let v945 : BitVec 32 := Scalar.addi c0_i32_957 v944
  v945.toNat
def k0_dev38 (d0 : Dev nD) : Nat :=
  let c0_i32_960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_959 : BitVec 32 := 1#32
  let v946 : BitVec 32 := Scalar.muli v7 c1_i32_959
  let v947 : BitVec 32 := Scalar.addi c0_i32_960 v946
  v947.toNat
def k0_dev39 (d0 : Dev nD) : Nat :=
  let c0_i32_968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_967 : BitVec 32 := 1#32
  let v948 : BitVec 32 := Scalar.muli v7 c1_i32_967
  let v949 : BitVec 32 := Scalar.addi c0_i32_968 v948
  v949.toNat
def k0_dev40 (d0 : Dev nD) : Nat :=
  let c0_i32_982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_981 : BitVec 32 := 1#32
  let v958 : BitVec 32 := Scalar.muli v5 c1_i32_981
  let v959 : BitVec 32 := Scalar.addi c0_i32_982 v958
  v959.toNat
def k0_dev41 (d0 : Dev nD) : Nat :=
  let c0_i32_1062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1061 : BitVec 32 := 1#32
  let v1047 : BitVec 32 := Scalar.muli v5 c1_i32_1061
  let v1048 : BitVec 32 := Scalar.addi c0_i32_1062 v1047
  v1048.toNat
def k0_dev42 (d0 : Dev nD) : Nat :=
  let c0_i32_1065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1064 : BitVec 32 := 1#32
  let v1049 : BitVec 32 := Scalar.muli v7 c1_i32_1064
  let v1050 : BitVec 32 := Scalar.addi c0_i32_1065 v1049
  v1050.toNat
def k0_dev43 (d0 : Dev nD) : Nat :=
  let c0_i32_1073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1072 : BitVec 32 := 1#32
  let v1051 : BitVec 32 := Scalar.muli v7 c1_i32_1072
  let v1052 : BitVec 32 := Scalar.addi c0_i32_1073 v1051
  v1052.toNat
def k0_dev44 (d0 : Dev nD) : Nat :=
  let c0_i32_1087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1086 : BitVec 32 := 1#32
  let v1061 : BitVec 32 := Scalar.muli v5 c1_i32_1086
  let v1062 : BitVec 32 := Scalar.addi c0_i32_1087 v1061
  v1062.toNat
def k0_dev45 (d0 : Dev nD) : Nat :=
  let c0_i32_1167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1166 : BitVec 32 := 1#32
  let v1150 : BitVec 32 := Scalar.muli v5 c1_i32_1166
  let v1151 : BitVec 32 := Scalar.addi c0_i32_1167 v1150
  v1151.toNat
def k0_dev46 (d0 : Dev nD) : Nat :=
  let c0_i32_1170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1169 : BitVec 32 := 1#32
  let v1152 : BitVec 32 := Scalar.muli v7 c1_i32_1169
  let v1153 : BitVec 32 := Scalar.addi c0_i32_1170 v1152
  v1153.toNat
def k0_dev47 (d0 : Dev nD) : Nat :=
  let c0_i32_1178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1177 : BitVec 32 := 1#32
  let v1154 : BitVec 32 := Scalar.muli v7 c1_i32_1177
  let v1155 : BitVec 32 := Scalar.addi c0_i32_1178 v1154
  v1155.toNat
def k0_dev48 (d0 : Dev nD) : Nat :=
  let c0_i32_1192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1191 : BitVec 32 := 1#32
  let v1164 : BitVec 32 := Scalar.muli v5 c1_i32_1191
  let v1165 : BitVec 32 := Scalar.addi c0_i32_1192 v1164
  v1165.toNat
def k0_dev49 (d0 : Dev nD) : Nat :=
  let c0_i32_1272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1271 : BitVec 32 := 1#32
  let v1253 : BitVec 32 := Scalar.muli v5 c1_i32_1271
  let v1254 : BitVec 32 := Scalar.addi c0_i32_1272 v1253
  v1254.toNat
def k0_dev50 (d0 : Dev nD) : Nat :=
  let c0_i32_1275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1274 : BitVec 32 := 1#32
  let v1255 : BitVec 32 := Scalar.muli v7 c1_i32_1274
  let v1256 : BitVec 32 := Scalar.addi c0_i32_1275 v1255
  v1256.toNat
def k0_dev51 (d0 : Dev nD) : Nat :=
  let c0_i32_1283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1282 : BitVec 32 := 1#32
  let v1257 : BitVec 32 := Scalar.muli v7 c1_i32_1282
  let v1258 : BitVec 32 := Scalar.addi c0_i32_1283 v1257
  v1258.toNat
def k0_dev52 (d0 : Dev nD) : Nat :=
  let c0_i32_1297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1296 : BitVec 32 := 1#32
  let v1267 : BitVec 32 := Scalar.muli v5 c1_i32_1296
  let v1268 : BitVec 32 := Scalar.addi c0_i32_1297 v1267
  v1268.toNat
def k0_dev53 (d0 : Dev nD) : Nat :=
  let c0_i32_1377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1376 : BitVec 32 := 1#32
  let v1356 : BitVec 32 := Scalar.muli v5 c1_i32_1376
  let v1357 : BitVec 32 := Scalar.addi c0_i32_1377 v1356
  v1357.toNat
def k0_dev54 (d0 : Dev nD) : Nat :=
  let c0_i32_1380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1379 : BitVec 32 := 1#32
  let v1358 : BitVec 32 := Scalar.muli v7 c1_i32_1379
  let v1359 : BitVec 32 := Scalar.addi c0_i32_1380 v1358
  v1359.toNat
def k0_dev55 (d0 : Dev nD) : Nat :=
  let c0_i32_1388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1387 : BitVec 32 := 1#32
  let v1360 : BitVec 32 := Scalar.muli v7 c1_i32_1387
  let v1361 : BitVec 32 := Scalar.addi c0_i32_1388 v1360
  v1361.toNat
def k0_dev56 (d0 : Dev nD) : Nat :=
  let c0_i32_1402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1401 : BitVec 32 := 1#32
  let v1370 : BitVec 32 := Scalar.muli v5 c1_i32_1401
  let v1371 : BitVec 32 := Scalar.addi c0_i32_1402 v1370
  v1371.toNat
def k0_dev57 (d0 : Dev nD) : Nat :=
  let c0_i32_1482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1481 : BitVec 32 := 1#32
  let v1459 : BitVec 32 := Scalar.muli v5 c1_i32_1481
  let v1460 : BitVec 32 := Scalar.addi c0_i32_1482 v1459
  v1460.toNat
def k0_dev58 (d0 : Dev nD) : Nat :=
  let c0_i32_1485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1484 : BitVec 32 := 1#32
  let v1461 : BitVec 32 := Scalar.muli v7 c1_i32_1484
  let v1462 : BitVec 32 := Scalar.addi c0_i32_1485 v1461
  v1462.toNat
def k0_dev59 (d0 : Dev nD) : Nat :=
  let c0_i32_1493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1492 : BitVec 32 := 1#32
  let v1463 : BitVec 32 := Scalar.muli v7 c1_i32_1492
  let v1464 : BitVec 32 := Scalar.addi c0_i32_1493 v1463
  v1464.toNat
def k0_dev60 (d0 : Dev nD) : Nat :=
  let c0_i32_1507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1506 : BitVec 32 := 1#32
  let v1473 : BitVec 32 := Scalar.muli v5 c1_i32_1506
  let v1474 : BitVec 32 := Scalar.addi c0_i32_1507 v1473
  v1474.toNat
def k0_dev61 (d0 : Dev nD) : Nat :=
  let c0_i32_1587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1586 : BitVec 32 := 1#32
  let v1562 : BitVec 32 := Scalar.muli v5 c1_i32_1586
  let v1563 : BitVec 32 := Scalar.addi c0_i32_1587 v1562
  v1563.toNat
def k0_dev62 (d0 : Dev nD) : Nat :=
  let c0_i32_1595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1594 : BitVec 32 := 1#32
  let v1564 : BitVec 32 := Scalar.muli v7 c1_i32_1594
  let v1565 : BitVec 32 := Scalar.addi c0_i32_1595 v1564
  v1565.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16384x256 : Shape := ⟨2, ![16384, 256]⟩
abbrev S256x64 : Shape := ⟨2, ![256, 64]⟩
abbrev S16384x1 : Shape := ⟨2, ![16384, 1]⟩
abbrev S64x256x512 : Shape := ⟨3, ![64, 256, 512]⟩
abbrev S256x512 : Shape := ⟨2, ![256, 512]⟩
abbrev S16384x64 : Shape := ⟨2, ![16384, 64]⟩
abbrev S_ : Shape := ⟨0, ![]⟩
abbrev S16384 : Shape := ⟨1, ![16384]⟩
abbrev S16384x512 : Shape := ⟨2, ![16384, 512]⟩
abbrev S16384x2 : Shape := ⟨2, ![16384, 2]⟩
abbrev S2 : Shape := ⟨1, ![2]⟩
abbrev S1x2 : Shape := ⟨2, ![1, 2]⟩
abbrev S1 : Shape := ⟨1, ![1]⟩
abbrev S1x1 : Shape := ⟨2, ![1, 1]⟩
abbrev S16384x256x512 : Shape := ⟨3, ![16384, 256, 512]⟩

abbrev nBuf : Space → Nat
  | .hbm => 59
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x64, .f32⟩
  | .hbm, ⟨2, _⟩ => ⟨S16384x1, .i32⟩
  | .hbm, ⟨3, _⟩ => ⟨S64x256x512, .f32⟩
  | .hbm, ⟨4, _⟩ => ⟨S256x512, .f32⟩
  | .hbm, ⟨5, _⟩ => ⟨S16384x64, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x64, .f32⟩
  | .hbm, ⟨16, _⟩ => ⟨S16384x64, .f32⟩
  | .hbm, ⟨17, _⟩ => ⟨S16384x512, .f32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16384x1, .i32⟩
  | .hbm, ⟨22, _⟩ => ⟨S16384x2, .i32⟩
  | .hbm, ⟨23, _⟩ => ⟨S2, .i32⟩
  | .hbm, ⟨24, _⟩ => ⟨S_, .i32⟩
  | .hbm, ⟨25, _⟩ => ⟨S16384x2, .i32⟩
  | .hbm, ⟨26, _⟩ => ⟨S16384x2, .i1⟩
  | .hbm, ⟨27, _⟩ => ⟨S1x2, .i32⟩
  | .hbm, ⟨28, _⟩ => ⟨S16384x2, .i32⟩
  | .hbm, ⟨29, _⟩ => ⟨S16384x2, .i1⟩
  | .hbm, ⟨30, _⟩ => ⟨S16384x2, .i1⟩
  | .hbm, ⟨31, _⟩ => ⟨S_, .i1⟩
  | .hbm, ⟨32, _⟩ => ⟨S16384, .i1⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384, .i32⟩
  | .hbm, ⟨38, _⟩ => ⟨S16384x1, .i32⟩
  | .hbm, ⟨39, _⟩ => ⟨S1, .i32⟩
  | .hbm, ⟨40, _⟩ => ⟨S_, .i32⟩
  | .hbm, ⟨41, _⟩ => ⟨S16384x1, .i32⟩
  | .hbm, ⟨42, _⟩ => ⟨S16384x1, .i1⟩
  | .hbm, ⟨43, _⟩ => ⟨S1x1, .i32⟩
  | .hbm, ⟨44, _⟩ => ⟨S16384x1, .i32⟩
  | .hbm, ⟨45, _⟩ => ⟨S16384x1, .i1⟩
  | .hbm, ⟨46, _⟩ => ⟨S16384x1, .i1⟩
  | .hbm, ⟨47, _⟩ => ⟨S_, .i1⟩
  | .hbm, ⟨48, _⟩ => ⟨S16384, .i1⟩
  | .hbm, ⟨49, _⟩ => ⟨S16384x256x512, .f32⟩
  | .hbm, ⟨50, _⟩ => ⟨S16384x256x512, .i1⟩
  | .hbm, ⟨51, _⟩ => ⟨S_, .f32⟩
  | .hbm, ⟨52, _⟩ => ⟨S16384x256x512, .f32⟩
  | .hbm, ⟨53, _⟩ => ⟨S16384x256x512, .f32⟩
  | .hbm, ⟨54, _⟩ => ⟨S16384x512, .f32⟩
  | .hbm, ⟨55, _⟩ => ⟨S16384x1, .f32⟩
  | .hbm, ⟨56, _⟩ => ⟨S16384x512, .f32⟩
  | .hbm, ⟨57, _⟩ => ⟨S16384x512, .f32⟩
  | .hbm, ⟨58, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Proof.Ring.lean ====
/-
# The kernel's text, hop by hop

Thirty-two devices stand in a ring. Each holds two expert matrices; both travel round the ring in the two
directions at once, sixteen hops to the right and fifteen to the left, and every device adds, for each pair of
matrices it meets, the contribution of the tokens routed to one of the two. This module names the pieces of the
kernel (the two directions, the double buffers and their semaphores, one hop) and says that the kernel's body is
the sequence of these hops.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-! ## Neighbours -/

/-- The right-hand neighbour on the ring. -/
def rgt (c : Dev nD) : Dev nD := ⟨k0_dev2 c, k0_dev2_lt c⟩
/-- The left-hand neighbour. -/
def lft (c : Dev nD) : Dev nD := ⟨k0_dev1 c, k0_dev1_lt c⟩

/-- The neighbour a transfer in direction `b` goes to (`true`: to the right). -/
def dst (b : Bool) (c : Dev nD) : Dev nD := match b with | true => rgt c | false => lft c
/-- The neighbour a transfer in direction `b` comes from. -/
def src (b : Bool) (c : Dev nD) : Dev nD := match b with | true => lft c | false => rgt c

/-- A transfer comes from the device that sends here; -/
theorem dst_src (b : Bool) (c : Dev nD) : dst b (src b c) = c := by
  revert b c; decide +kernel
/-- and it goes to the one that receives from here. -/
theorem src_dst (b : Bool) (c : Dev nD) : src b (dst b c) = c := by
  revert b c; decide +kernel

/-! ## Slots, buffers and semaphores -/

/-- The slot in use at hop `h`. -/
def sl (h : ℕ) : Fin 2 := ⟨h % 2, Nat.mod_lt _ (by decide)⟩

/-- Each slot lies within its buffer, -/
theorem slot_inb (s : Fin 2) : ∀ a : Fin 4, (![s.val, 0, 0, 0] : Fin 4 → ℕ) a + S1x2x256x512.size a ≤ S2x2x256x512.size a := by
  revert s; decide
/-- and each semaphore within its array. -/
theorem sem_inb (s : Fin 2) : ∀ a : Fin 1, (![s.val] : Fin 1 → ℕ) a + S1.size a ≤ S2.size a := by
  revert s; decide

/-- The half of a double buffer slot `s` names. -/
abbrev slot (s : Fin 2) : Rect S2x2x256x512 := Rect.unit (s := S2x2x256x512) ![s.val, 0, 0, 0] S1x2x256x512.size (slot_inb s)

/-- The scratch buffer of the matrices travelling in direction `b`. -/
abbrev commRef (b : Bool) : Ref sig .tc := match b with | true => cc0_scratch0 | false => cc0_scratch1
/-- The double buffer of the matrices travelling in direction `b`. -/
abbrev comm (b : Bool) : Memref sig .tc .vmem S2x2x256x512 .bf16 :=
  match b with | true => Memref.whole cc0_scratch0 | false => Memref.whole cc0_scratch1
/-- A double buffer is a whole scratch buffer. -/
theorem comm_whole (b : Bool) : (comm b).IsWhole := by cases b <;> exact Memref.isWhole_whole _

/-- One slot of the double buffer, as the load and the store address it. -/
abbrev half (b : Bool) (s : Fin 2) : Memref sig .tc .vmem S1x2x256x512 .bf16 := (comm b).slice (slot s) (fun _ => rfl)
/-- The same slot, as the transfers address it. -/
abbrev buf (b : Bool) (s : Fin 2) : Memref sig .tc .vmem S2x256x512 .bf16 :=
  (half b s).squeeze S2x256x512 squeezes_S1x2x256x512_S2x256x512

/-- A slot is made up of whole words, -/
theorem half_words (b : Bool) (s : Fin 2) : (half b s).view.WordExact := by
  refine (comm_whole b).wordExact_slice rfl (slot s) ?_
  match s with
  | 0 => exact wordsbf16_S2x2x256x512_S1x2x256x512_0_0_0_0
  | 1 => exact wordsbf16_S2x2x256x512_S1x2x256x512_1_0_0_0
/-- as the transfers see it too. -/
theorem buf_words (b : Bool) (s : Fin 2) : (buf b s).view.WordExact := (half_words b s).reshape _ _

/-- One semaphore of an array of two. -/
abbrev semAt (a : DmaSems sig S2) (s : Fin 2) : DmaSem sig :=
  ((a.slice (Rect.unit (s := S2) ![s.val] S1.size (sem_inb s))).squeeze S_ squeezes_S1_S_).sem

/-- The semaphore a transfer in direction `b` out of slot `s` completes on at its sender. -/
abbrev sdSem (b : Bool) (s : Fin 2) : DmaSem sig := match b with | true => semAt cc0_scratch2 s | false => semAt cc0_scratch4 s
/-- The semaphore a transfer in direction `b` into slot `s` completes on at its receiver. -/
abbrev rvSem (b : Bool) (s : Fin 2) : DmaSem sig := match b with | true => semAt cc0_scratch3 s | false => semAt cc0_scratch5 s
/-- The semaphore on which a device is told that its neighbour in direction `b` can take one more transfer. -/
abbrev crSem (b : Bool) : Sem sig := match b with | true => cc0_scratch6.sem | false => cc0_scratch7.sem
/-- The barrier semaphore of the launch. -/
abbrev barSem : Sem sig := (SemArray.scalar (sig.barrier 0 rfl) : Sems sig S_).sem

/-! ## One hop's operations -/

/-- A stretch of the kernel. -/
abbrev Pr (F : FTy → Type) [FloatOps F] (α : Type) := Prog (TpuEff nD τ sig (Elt F) Λ₀ .tc) α

/-- Hop `h`'s transfer in direction `b`: out of this hop's slot into the neighbour's other slot. -/
def sendB (c : Dev nD) (b : Bool) (h : ℕ) : Pr F PUnit :=
  Prog.lift (.enqueueDma (buf b (sl h)) (.remote (Dev.tc (dst b c)) (buf b (sl (h + 1))) (.dma (sdSem b (sl h))))
    (.dma (rvSem b (sl (h + 1)))) (buf_words b _) (buf_words b _) ⟨⟨rfl, Or.inl rfl⟩, trivial⟩)
/-- The wait for hop `h`'s own transfer to have left. -/
def waitSd (b : Bool) (h : ℕ) : Pr F PUnit :=
  Prog.lift (.waitDma2 (sdSem b (sl h)) (buf b (sl (h + 1))) (buf b (sl h)) (buf_words b _) (buf_words b _))
/-- The wait for hop `h`'s transfer from the other neighbour to have landed. -/
def waitRv (b : Bool) (h : ℕ) : Pr F PUnit :=
  Prog.lift (.waitDma2 (rvSem b (sl (h + 1))) (buf b (sl h)) (buf b (sl (h + 1))) (buf_words b _) (buf_words b _))
/-- The load of this hop's slot. -/
def loadB (b : Bool) (h : ℕ) : Pr F (Vec F S1x2x256x512 .bf16) :=
  Prog.lift (.load (comm b) (slot (sl h)).toLoadRect (View.loadsAt_vmem h_S1x2x256x512))
/-- The wait for the neighbour in direction `b` to be able to take a transfer. -/
def waitCr (b : Bool) : Pr F PUnit := semWaitWord (crSem b) 1#32
/-- Telling the other neighbour that its next transfer in direction `b` can come. -/
def sigCr (c : Dev nD) (b : Bool) : Pr F PUnit := semSignalWord (src b c) (crSem b) 1#32

/-! ## What a hop adds -/

/-- The tokens routed to expert `2·o + k`, each multiplied by its weight; the other rows zero. -/
def col (x : FVec F S512x256 .f32) (route : IVec S512x1 32) (p : FVec F S512x1 .f32) (o k : BitVec 32) : FVec F S512x256 .bf16 :=
  truncf .bf16 (mulf (broadcastTo S512x256 (select (cmpi .eq route (broadcast S512x1 (Scalar.addi (Scalar.muli 2#32 o) k))) p
    (broadcast S512x1 (Scalar.ofBits .f32 0x00000000#32 : F .f32))) broadcasts_S512x1_S512x256) x) bitsLt_bf16_f32

/-- The two matrices of a slot, one above the other. -/
def mat (w : Vec F S1x2x256x512 .bf16) : FVec F S512x512 .bf16 :=
  shapeCast S512x512 (shapeCast S2x256x512 w shapeCasts_S1x2x256x512_S2x256x512) shapeCasts_S2x256x512_S512x512

/-- The contribution of the matrices `w` of device `o`, added to `acc`. -/
def add1 (x : FVec F S512x256 .f32) (route : IVec S512x1 32) (p : FVec F S512x1 .f32) (acc : FVec F S512x512 .f32)
    (o : BitVec 32) (w : Vec F S1x2x256x512 .bf16) : FVec F S512x512 .f32 :=
  addf acc (matmul dot_S512x512_S512x512_S512x512_1_0_0_1_n_n none
    (concatenate S512x512 1 [⟨S512x256, col x route p o 0#32⟩, ⟨S512x256, col x route p o 1#32⟩] concatenates_S512x256_S512x256_S512x512_d1)
    (mat w) (constant S512x512 .f32 0x00000000#32))

/-- The contributions of the matrices of devices `o` and `o'`, added to `acc`. -/
def add2 (x : FVec F S512x256 .f32) (route : IVec S512x1 32) (p : FVec F S512x1 .f32) (acc : FVec F S512x512 .f32)
    (o : BitVec 32) (w : Vec F S1x2x256x512 .bf16) (o' : BitVec 32) (w' : Vec F S1x2x256x512 .bf16) : FVec F S512x512 .f32 :=
  addf acc (matmul dot_S512x1024_S1024x512_S512x512_1_0_0_1_n_n none
    (concatenate S512x1024 1 [⟨S512x256, col x route p o 0#32⟩, ⟨S512x256, col x route p o 1#32⟩, ⟨S512x256, col x route p o' 0#32⟩, ⟨S512x256, col x route p o' 1#32⟩]
      concatenates_S512x256_S512x256_S512x256_S512x256_S512x1024_d1)
    (concatenate S1024x512 0 [⟨S512x512, mat w⟩, ⟨S512x512, mat w'⟩] concatenates_S512x512_S512x512_S1024x512_d0)
    (constant S512x512 .f32 0x00000000#32))

/-- The device's place on the ring, as the kernel computes it. -/
def idW (c : Dev nD) : BitVec 32 := Scalar.remsi (Scalar.divsi (Dev.word c) 1#32) 32#32
/-- The device whose matrices are in the right-going slot at hop `h`, as the kernel computes it. -/
def orgR (c : Dev nD) (h : BitVec 32) : BitVec 32 := Scalar.remsi (Scalar.addi (Scalar.subi (idW c) h) 32#32) 32#32
/-- The device whose matrices are in the left-going slot at hop `h`. -/
def orgL (c : Dev nD) (h : BitVec 32) : BitVec 32 := Scalar.remsi (Scalar.addi (idW c) h) 32#32

/-- The four waits that end a hop. -/
def waitsB (h : ℕ) : Pr F PUnit := do
  waitSd true h
  waitRv true h
  waitSd false h
  waitRv false h

/-- Hops 1 to 14: both transfers, both contributions, all four waits, the right-going credit. -/
def hopB (x : FVec F S512x256 .f32) (route : IVec S512x1 32) (p : FVec F S512x1 .f32) (c : Dev nD) (h : ℕ) (acc : FVec F S512x512 .f32) :
    Pr F (FVec F S512x512 .f32) := do
  waitCr true
  sendB c true h
  waitCr false
  sendB c false h
  let w ← loadB true h
  let w' ← loadB false h
  waitsB h
  sigCr c true
  pure (add2 x route p acc (orgR c (BitVec.ofNat 32 h)) w (orgL c (BitVec.ofNat 32 h)) w')

/-- Hops 1 to 13: the left-going credit follows. -/
def hopM (x : FVec F S512x256 .f32) (route : IVec S512x1 32) (p : FVec F S512x1 .f32) (c : Dev nD) (h : ℕ) (acc : FVec F S512x512 .f32) :
    Pr F (FVec F S512x512 .f32) := do
  let a ← hopB x route p c h acc
  sigCr c false
  pure a

/-- Hop 0. -/
def hopFst (x : FVec F S512x256 .f32) (route : IVec S512x1 32) (p : FVec F S512x1 .f32) (c : Dev nD) (acc : FVec F S512x512 .f32) :
    Pr F (FVec F S512x512 .f32) := do
  sendB c true 0
  sendB c false 0
  let w ← loadB true 0
  waitsB 0
  sigCr c true
  sigCr c false
  pure (add1 x route p acc (idW c) w)

/-- Hop 15: the last transfer, to the right only. -/
def hopLst (x : FVec F S512x256 .f32) (route : IVec S512x1 32) (p : FVec F S512x1 .f32) (c : Dev nD) (acc : FVec F S512x512 .f32) :
    Pr F (FVec F S512x512 .f32) := do
  waitCr true
  sendB c true 15
  let w ← loadB true 15
  let w' ← loadB false 15
  waitSd true 15
  waitRv true 15
  pure (add2 x route p acc (orgR c 15#32) w (orgL c 15#32) w')

/-- The hops `1, …, n` in their order. -/
def hops (x : FVec F S512x256 .f32) (route : IVec S512x1 32) (p : FVec F S512x1 .f32) (c : Dev nD) : ℕ → FVec F S512x512 .f32 → Pr F (FVec F S512x512 .f32)
  | 0, acc => pure acc
  | n + 1, acc => do
    let a ← hops x route p c n acc
    hopM x route p c (n + 1) a

/-- The barrier at the start. -/
def barB (c : Dev nD) : Pr F PUnit := do
  semSignalWord (lft c) barSem 1#32
  semSignalWord (rgt c) barSem 1#32
  semWaitWord barSem 2#32

/-- The store of a device's own matrices into slot 0 of one of the double buffers. -/
def putB (b : Bool) (v : Vec F S2x256x512 .f32) : Pr F PUnit := do
  let _ ← loadB b 0
  Prog.lift (.store (comm b) (slot 0) (k0_pay9 v) Finset.univ
    (View.stores_vmem h_S1x2x256x512 ((comm_whole b).storeExact_slice rfl _ packedbf16_S2x2x256x512_S1x2x256x512_0_0_0_0) (fun _ => rfl)) (.inl rfl))

/-- The kernel on one device: barrier, the reads of its operands, the sixteen hops, the store of the result. -/
def prog (arg0 : Memref sig .tc .vmem S512x256 .f32) (arg1 : Memref sig .tc .vmem S256x64 .f32) (arg2 : Memref sig .tc .vmem S512x1 .i32)
    (arg3 : Memref sig .tc .vmem S2x256x512 .f32) (arg4 : Memref sig .tc .vmem S256x512 .f32) (arg5 : Memref sig .tc .vmem S512x512 .f32) : Pr F PUnit := do
  let c ← Prog.lift .deviceId
  barB c
  let x ← Prog.lift (.load arg0 (Rect.unit (s := S512x256) ![0, 0] S512x256.size inb_S512x256_S512x256_0_0).toLoadRect (View.loadsAt_vmem h_S512x256))
  let r ← Prog.lift (.load arg1 (Rect.unit (s := S256x64) ![0, 0] S256x64.size inb_S256x64_S256x64_0_0).toLoadRect (View.loadsAt_vmem h_S256x64))
  let t ← Prog.lift (.load arg2 (Rect.unit (s := S512x1) ![0, 0] S512x1.size inb_S512x1_S512x1_0_0).toLoadRect (View.loadsAt_vmem h_S512x1))
  let w ← Prog.lift (.load arg4 (Rect.unit (s := S256x512) ![0, 0] S256x512.size inb_S256x512_S256x512_0_0).toLoadRect (View.loadsAt_vmem h_S256x512))
  let e ← Prog.lift (.load arg3 (Rect.unit (s := S2x256x512) ![0, 0, 0] S2x256x512.size inb_S2x256x512_S2x256x512_0_0_0).toLoadRect (View.loadsAt_vmem h_S2x256x512))
  putB true e
  putB false e
  let a ← hopFst (k0_pay2 x) (k0_pay4 t) (k0_pay6 (k0_pay3 x r) (k0_pay5 t)) c (k0_pay7 (k0_pay2 x) w)
  let a ← hops (k0_pay2 x) (k0_pay4 t) (k0_pay6 (k0_pay3 x r) (k0_pay5 t)) c 13 a
  let a ← hopB (k0_pay2 x) (k0_pay4 t) (k0_pay6 (k0_pay3 x r) (k0_pay5 t)) c 14 a
  let a ← hopLst (k0_pay2 x) (k0_pay4 t) (k0_pay6 (k0_pay3 x r) (k0_pay5 t)) c a
  let z ← loadB true 16
  let _ ← Prog.lift (.load arg5 (Rect.unit (s := S512x512) ![0, 0] S512x512.size inb_S512x512_S512x512_0_0).toLoadRect (View.loadsAt_vmem h_S512x512))
  Prog.lift (.store arg5 (Rect.unit (s := S512x512) ![0, 0] S512x512.size inb_S512x512_S512x512_0_0)
    (add1 (k0_pay2 x) (k0_pay4 t) (k0_pay6 (k0_pay3 x r) (k0_pay5 t)) a (orgR c 16#32) z) Finset.univ (View.stores_vmem_bits_univ h_S512x512 rfl) (.inl rfl))

set_option maxRecDepth 65536 in
/-- The kernel's body is this sequence of hops. -/
theorem body_eq (t : Fin cfg0.N) : bodyAt0 (F := F) t
    = prog (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) := by
  sl_kernel_rfl

end Cert.KernelIdeal.Ring

end
-- ==== Proof.Protocol.lean ====
/-
# Who waits for whom

Everything is the same in the two directions, so it is said once for a direction `b` (`true`: matrices travel to the
right, 16 hops; `false`: to the left, 15 hops). On every device there are these semaphores:

* the barrier: both neighbours signal one unit at the start, each handing over its own slot 1 of one of its double
  buffers, into which the device will send first; the device waits for two;
* `cr b`: at the end of its hop `k` the neighbour in direction `b` signals one unit, handing over its slot `k % 2`,
  which it has read and sent on; the device waits for it before its transfer of hop `k + 1`;
* `sd b s`: the device's own transfer of hop `h` out of slot `s = h % 2`, back with the share of the slot it read;
* `rv b s`: the transfer of hop `h` from the other neighbour into slot `s = (h + 1) % 2`, with that slot holding
  the matrices of the device `h + 1` places back, and the news that hop `h` of that neighbour has begun.

A wait always has a lower level than what the waiting device still owes: barrier 1, landing of hop `h` level
`2 h + 3`, credit of hop `h` level `2 h + 4`.
-/
module

public import proofs.«01_k».proof.Proof.Ring
public import Idealize.ShloMosaic.Lib.Pipeline.Launch
public import Idealize.ShloMosaic.Lib.Pipeline.Kit
public import Mathlib.Algebra.BigOperators.Intervals

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The state of the ring's schedule; -/
abbrev UB : Type := URounds (GSem nD τ sig) Bool
/-- with the staging's beside it. -/
abbrev UU : Type := UR sig nD τ × UB

local notation "𝕄" => MT nD τ sig ℕ (Elt F) ℕ UU ℕ

/-- The staging's part of the state, -/
abbrev EP : Emb (UR sig nD τ) (MT nD τ sig ℕ (Elt F) ℕ UU ℕ) := embL
/-- and the ring's. -/
abbrev ER : Emb UB (MT nD τ sig ℕ (Elt F) ℕ UU ℕ) := embR

/-! ## The semaphores -/

/-- The kinds of semaphores the devices meet on. -/
inductive Kd where
  | bar
  | cr (b : Bool)
  | sd (b : Bool) (s : Fin 2)
  | rv (b : Bool) (s : Fin 2)
  deriving DecidableEq

/-- All of them. -/
def Kd.all : List Kd := [.bar, .cr true, .cr false, .sd true 0, .sd true 1, .sd false 0, .sd false 1, .rv true 0, .rv true 1, .rv false 0, .rv false 1]
/-- Each is among them. -/
theorem Kd.mem_all (k : Kd) : k ∈ Kd.all := by
  rcases k with _ | b | ⟨b, s⟩ | ⟨b, s⟩
  · decide
  · revert b; decide
  · revert b s; decide
  · revert b s; decide
instance : Fintype Kd := ⟨Kd.all.toFinset, fun k => List.mem_toFinset.mpr (Kd.mem_all k)⟩

/-- The semaphore of a kind. -/
def loc : Kd → SemLoc sig
  | .bar => .reg barSem
  | .cr b => .reg (crSem b)
  | .sd b s => .dma (sdSem b s)
  | .rv b s => .dma (rvSem b s)

/-- The kind of a semaphore, if it has one. -/
def kindOf : SemLoc sig → Option Kd
  | .reg q => if q = barSem then some .bar else if q = crSem true then some (.cr true) else some (.cr false)
  | .dma q =>
    if q = sdSem true 0 then some (.sd true 0) else if q = sdSem true 1 then some (.sd true 1)
    else if q = sdSem false 0 then some (.sd false 0) else if q = sdSem false 1 then some (.sd false 1)
    else if q = rvSem true 0 then some (.rv true 0) else if q = rvSem true 1 then some (.rv true 1)
    else if q = rvSem false 0 then some (.rv false 0) else if q = rvSem false 1 then some (.rv false 1)
    else none

/-- The semaphore of a kind is of that kind, -/
theorem kindOf_loc (k : Kd) : kindOf (loc k) = some k := by
  revert k; decide +kernel
/-- so no two kinds have the same semaphore. -/
theorem loc_injective : Function.Injective loc := fun k k' h => by
  have := congrArg kindOf h
  rwa [kindOf_loc, kindOf_loc, Option.some.injEq] at this

/-- The semaphore of a kind on device `c`. -/
abbrev cell (c : Dev nD) (k : Kd) : GSem nD τ sig := ((c : Thread nD τ), loc k)

/-- The hops in direction `b`. -/
def nh (b : Bool) : ℕ := if b then 16 else 15

/-- The device whose matrices are in the slot of hop `h` on device `c`. -/
def org (b : Bool) : ℕ → Dev nD → Dev nD
  | 0, c => c
  | h + 1, c => org b h (src b c)

/-- What a device has at hop `h`, its neighbour has at the next. -/
theorem org_dst (b : Bool) (h : ℕ) (c : Dev nD) : org b (h + 1) (dst b c) = org b h c := by
  show org b h (src b (dst b c)) = _; rw [src_dst]

/-- Two hops on, the slot is the same. -/
theorem sl_succ_succ (h : ℕ) : sl (h + 1 + 1) = sl h := Fin.ext (by simp only [sl]; omega)
/-- It is one of two. -/
theorem sl_cases (h : ℕ) : sl h = 0 ∨ sl h = 1 := by rcases Nat.mod_two_eq_zero_or_one h with e | e <;> [left; right] <;> exact Fin.ext e

/-! ## What a slot holds -/

/-- One slot's two matrices. -/
abbrev Mats (F : FTy → Type) [FloatOps F] := Vec F S1x2x256x512 .bf16

/-- Slot `s` of the double buffer `b` on device `c`, at share `q`, holds `w`. -/
def Holds (b : Bool) (c : Dev nD) (s : Fin 2) (q : PosShare TreeShare) (w : Mats F) : sProp 𝕄 :=
  (half b s).view.loc (c : Thread nD τ) ↦[(half b s).view.set]{q} (half b s).view.rep w

/-- Slot `s` of the double buffer `b` on device `c`, whatever it holds. -/
def Any (b : Bool) (c : Dev nD) (s : Fin 2) : sProp 𝕄 :=
  iprop(∃ f, (half b s).view.loc (c : Thread nD τ) ↦[(half b s).view.set]{fullShare} f)

instance Holds_storable (b c s q) (w : Mats F) : BI.Storable (upEmb : UEmb _ 𝕄) (Holds b c s q w) := by unfold Holds; infer_instance
instance Any_storable (b c s) : BI.Storable (upEmb : UEmb _ 𝕄) (Any (F := F) b c s) := by unfold Any; infer_instance

/-- A slot with contents `f` holds what the slot's view reads of them. -/
theorem holds_of (b : Bool) (c : Dev nD) (s : Fin 2) (q : PosShare TreeShare) (f : Buf (Elt F) ((half b s).view.loc (c : Thread nD τ))) :
    ((half b s).view.loc (c : Thread nD τ) ↦[(half b s).view.set]{q} f : sProp 𝕄) = Holds b c s q ((half b s).view.read (Elt F) f) :=
  pointsTo_rep (c : Thread nD τ) (half b s) f q

/-- A slot that holds `w` holds something. -/
theorem any_of_holds (b : Bool) (c : Dev nD) (s : Fin 2) (w : Mats F) : (Holds b c s fullShare w : sProp 𝕄) ⊢ Any b c s := by
  unfold Holds Any; iintro H; iexists _; iexact H

/-- A slot held whole is held in two halves. -/
theorem holds_halves (b : Bool) (c : Dev nD) (s : Fin 2) (w : Mats F) :
    (Holds b c s fullShare w : sProp 𝕄) ⊣⊢ iprop(Holds b c s fullShare.left w ∗ Holds b c s fullShare.right w) :=
  pointsTo_share (PosShare.mem_left_op_right fullShare)

/-- The transfers' view of a slot reads what the load's view reads, indexed by its own shape. -/
theorem buf_set (b : Bool) (s : Fin 2) : (buf b s).view.set = (half b s).view.set := View.set_reshape _ _

/-- What a transfer out of a slot holding `w` leaves in the slot it lands in. -/
theorem landed (b : Bool) (c : Dev nD) (s s' : Fin 2) (w : Mats F) (fd : Buf (Elt F) ((buf b s').view.loc (c : Thread nD τ))) :
    ((buf b s').view.loc (c : Thread nD τ) ↦[(buf b s').view.set]{fullShare}
        (buf b s').view.write (Elt F) fd ((buf b s).view.read (Elt F) ((half b s).view.rep w)) Finset.univ : sProp 𝕄)
      = Holds b c s' fullShare w := by
  rw [buf_set]
  refine (holds_of b c s' fullShare _).trans (congrArg _ ?_)
  funext y
  obtain ⟨x, rfl⟩ := (Shape.reshapeEquiv (s := S1x2x256x512) (s' := S2x256x512) rfl).surjective y
  show (buf b s').view.read (Elt F) ((buf b s').view.write (Elt F) fd ((buf b s).view.read (Elt F) ((half b s).view.rep w)) Finset.univ) x = _
  rw [View.read_write_univ]
  show (half b s).view.read (Elt F) ((half b s).view.rep w) _ = _
  rw [View.read_rep]; rfl

/-- The bytes one transfer moves, as the semaphores count them. -/
abbrev N : ℕ := (buf true 0).view.dmaCredit
/-- It is more than none, -/
theorem N_pos : 0 < N := View.dmaCredit_pos _ (by decide)
/-- and the same for every slot. -/
theorem credit_eq (b : Bool) (s : Fin 2) : (buf b s).view.dmaCredit = N := by cases b <;> rfl

/-! ## The schedule -/

section Sched

variable (W : Dev nD → Mats F)

/-- Which payments round `r` of a semaphore consists of. -/
def dutiesK : Kd → ℕ → Finset Bool
  | .bar, r => if r = 0 then Finset.univ else ∅
  | .cr b, r => if r + 1 < nh b then {false} else ∅
  | .sd b s, r => if 2 * r + s.val < nh b then {false} else ∅
  | .rv b s, r => if 2 * r + (1 - s.val) < nh b then {false} else ∅

/-- How much each payment is. -/
def amountK : Kd → ℕ
  | .bar | .cr _ => 1
  | .sd _ _ | .rv _ _ => N

/-- What each payment hands over. -/
def payK (c : Dev nD) : Kd → ℕ → Bool → sProp 𝕄
  | .bar, _, d => iprop(Any d (dst d c) 1 ∗ reached ER (cell (dst d c) (.rv d 1)) 0)
  | .cr b, r, _ => iprop(Any b (dst b c) (sl r) ∗ reached ER (cell (dst b c) (.rv b (sl r))) ((r + 1) / 2))
  | .sd b s, r, _ => Holds b c s fullShare.left (W (org b (2 * r + s.val) c))
  | .rv b s, r, _ => iprop(Holds b c s fullShare (W (org b (2 * r + (1 - s.val) + 1) c)) ∗ reached ER (cell (src b c) (.cr b)) (2 * r + (1 - s.val)))

/-- The payments on every semaphore, round by round. -/
def Rd : Rounds.Schedule (GSem nD τ sig) Bool 𝕄 where
  duties g r := if g.1.2 = .tc then (match kindOf g.2 with | some k => dutiesK k r | none => ∅) else ∅
  unitless _ := False
  amount g _ _ := match kindOf g.2 with | some k => amountK k | none => 1
  payload g r d := match kindOf g.2 with | some k => payK W g.1.1 k r d | none => iprop(emp)
  amount_pos g _ _ _ := by
    cases kindOf g.2 with
    | none => exact Nat.one_pos
    | some k => cases k <;> first | exact Nat.one_pos | exact N_pos

instance payK_storable (c : Dev nD) (k : Kd) (r : ℕ) (d : Bool) : BI.Storable (upEmb : UEmb _ 𝕄) (payK W c k r d) := by
  cases k <;> unfold payK <;> infer_instance

instance Rd_payload_storable (g : GSem nD τ sig) (r : ℕ) (d : Bool) : BI.Storable (upEmb : UEmb _ 𝕄) ((Rd W).payload g r d) := by
  show BI.Storable upEmb (match kindOf g.2 with | some k => payK W g.1.1 k r d | none => iprop(emp))
  split <;> infer_instance

/-- The schedule's payments on a semaphore of a kind, -/
theorem duties_cell (c : Dev nD) (k : Kd) (r : ℕ) : (Rd W).duties (cell c k) r = dutiesK k r := by
  show (if (c : Thread nD τ).2 = .tc then (match kindOf (loc k) with | some k => dutiesK k r | none => ∅) else ∅) = _
  rw [if_pos rfl, kindOf_loc]
/-- their amounts, -/
theorem amount_cell (c : Dev nD) (k : Kd) (r : ℕ) (d : Bool) : (Rd W).amount (cell c k) r d = amountK k := by
  show (match kindOf (loc k) with | some k => amountK k | none => 1) = _
  rw [kindOf_loc]
/-- and what they hand over. -/
theorem payload_cell (c : Dev nD) (k : Kd) (r : ℕ) (d : Bool) : (Rd W).payload (cell c k) r d = payK W c k r d := by
  show (match kindOf (loc k) with | some k => payK W c k r d | none => iprop(emp)) = _
  rw [kindOf_loc]

/-- A round with one payment: what a wait takes and what it hands over. -/
theorem expect_one (c : Dev nD) (k : Kd) (r : ℕ) (h : dutiesK k r = {false}) : (Rd W).expect (cell c k) r = amountK k := by
  unfold Schedule.expect Schedule.amountOf
  rw [duties_cell, h, Finset.sum_singleton, amount_cell]
/-- What the wait for a single payment gets. -/
theorem rest_one (c : Dev nD) (k : Kd) (r : ℕ) (h : dutiesK k r = {false}) :
    bigSep ((Rd W).duties (cell c k) r \ ∅) (fun d => (Rd W).payload (cell c k) r d) = payK W c k r false := by
  rw [Finset.sdiff_empty, duties_cell, h, bigSep_singleton, payload_cell]

/-- The barrier waits for two units, -/
theorem expect_bar (c : Dev nD) : (Rd W).expect (cell c .bar) 0 = 2 := by
  unfold Schedule.expect Schedule.amountOf
  rw [duties_cell, Finset.sum_congr rfl fun d _ => amount_cell W c .bar 0 d]
  rfl
/-- and gets what both neighbours hand over. -/
theorem rest_bar (c : Dev nD) :
    bigSep ((Rd W).duties (cell c .bar) 0 \ ∅) (fun d => (Rd W).payload (cell c .bar) 0 d) = iprop(payK W c .bar 0 true ∗ payK W c .bar 0 false) := by
  rw [Finset.sdiff_empty, duties_cell]
  show bigSep (Finset.univ : Finset Bool) _ = _
  rw [bigSep_univ_eq_bigSepL [true, false] (by decide) (by decide), bigSepL_cons_cons, bigSepL_singleton, payload_cell, payload_cell]
  rfl

end Sched

/-! ## Levels, and what is owed -/

/-- The level of index `i` on a semaphore. -/
def lvK : Option Kd → ℕ → ℕ
  | some .bar, _ => 1
  | some (.rv _ _), i => 2 * i + 3
  | some (.cr _), i => 2 * i + 4
  | _, _ => 0
/-- The level of index `i` on the semaphore `g`. -/
def lv (g : GSem nD τ sig) (i : ℕ) : ℕ := lvK (kindOf g.2) i
/-- The indices that have a level. -/
def L (g : GSem nD τ sig) : Finset ℕ := if g.1.2 = .tc then Finset.range 17 else ∅

/-- The level on a semaphore of a kind. -/
theorem lv_cell (c : Dev nD) (k : Kd) (i : ℕ) : lv (cell c k) i = lvK (some k) i := by unfold lv; rw [kindOf_loc]
/-- Other threads have no levels; -/
theorem L_of_ne (g : GSem nD τ sig) (h : g.1.2 ≠ .tc) : L g = ∅ := if_neg h
/-- the thread that runs the kernel has seventeen. -/
theorem L_tc (c : Dev nD) (sm : SemLoc sig) : L ((c : Thread nD τ), sm) = Finset.range 17 := if_pos rfl

/-- The amounts a device still owes. -/
abbrev Tal := CellTallies nD τ sig ℕ

/-- Everything owed in `O` is owed above level `n`. -/
def Above (n : ℕ) (O : Tal) : Prop := ∀ g i, 0 < O g i → i ∈ L g ∧ n < lv g i

/-- What is owed above a level is owed above a lower one. -/
theorem Above.mono {n n' : ℕ} {O : Tal} (h : Above n O) (hn : n' ≤ n) : Above n' O :=
  fun g i hg => ⟨(h g i hg).1, lt_of_le_of_lt hn (h g i hg).2⟩
/-- Two amounts owed above a level are so together. -/
theorem Above.add {n : ℕ} {O O' : Tal} (h : Above n O) (h' : Above n O') : Above n (O + O') := fun g i hg => by
  rw [Pi.add_apply, Finsupp.add_apply] at hg
  rcases Nat.eq_zero_or_pos (O g i) with h0 | h0
  · exact h' g i (by omega)
  · exact h g i h0
/-- Nothing is owed above any level. -/
theorem Above.zero (n : ℕ) : Above n 0 := fun g i hg => absurd hg (Nat.lt_irrefl 0)
/-- An amount at one index is owed above what lies below its level. -/
theorem Above.at (n : ℕ) (c : Dev nD) (k : Kd) (i a : ℕ) (hi : i < 17) (hn : n < lvK (some k) i) : Above n (tallyAt (cell c k) i a) := fun g j hg => by
  rw [tallyAt_apply] at hg
  by_cases h : g = cell c k ∧ j = i
  · obtain ⟨rfl, rfl⟩ := h
    rw [L_tc, lv_cell]; exact ⟨Finset.mem_range.mpr hi, hn⟩
  · rw [if_neg h] at hg; exact absurd hg (Nat.lt_irrefl 0)
/-- Amounts owed above a level are so in sum. -/
theorem Above.sum {n : ℕ} {s : Finset ℕ} {f : ℕ → Tal} (h : ∀ j ∈ s, Above n (f j)) : Above n (∑ j ∈ s, f j) := by
  induction s using Finset.induction_on with
  | empty => exact Above.zero n
  | insert a s ha ih =>
    rw [Finset.sum_insert ha]
    exact (h a (Finset.mem_insert_self _ _)).add (ih fun j hj => h j (Finset.mem_insert_of_mem hj))

/-- A device may wait on a semaphore below everything it owes. -/
theorem mayWait (c : Dev nD) (sm : SemLoc sig) (i : ℕ) (O : Tal) (hi : i < 17) (h : Above (lv ((c : Thread nD τ), sm) i) O) :
    (levAts L lv : sProp 𝕄) ⊢ MayWait (c : Thread nD τ) sm i O :=
  MayOwe.of_cut (L := L) (lev := lv) (lv ((c : Thread nD τ), sm) i)
    (fun p hp => by rw [Finset.mem_singleton.mp hp, L_tc]; exact Finset.mem_range.mpr hi) (fun g j hg => (h g j hg).1)
    (fun p hp => by rw [Finset.mem_singleton.mp hp]) (fun g j hg => (h g j hg).2)

/-- What hop `h`'s transfer owes the neighbour it goes to. -/
def oweX (b : Bool) (c : Dev nD) (h : ℕ) : Tal := tallyAt (cell (dst b c) (.rv b (sl (h + 1)))) h (if h < nh b then N else 0)
/-- What the end of hop `h` owes the other neighbour. -/
def oweC (b : Bool) (c : Dev nD) (h : ℕ) : Tal := tallyAt (cell (src b c) (.cr b)) h (if h + 1 < nh b then 1 else 0)
/-- What a device owes in direction `b` before hop `h`. -/
def remA (b : Bool) (c : Dev nD) (h : ℕ) : Tal := ∑ j ∈ Finset.Ico h 16, (oweC b c j + oweX b c j)
/-- What it owes in direction `b` after the transfer of hop `h`. -/
def remB (b : Bool) (c : Dev nD) (h : ℕ) : Tal := remA b c (h + 1) + oweC b c h

/-- Before hop `h` a device owes what it owes after the hop's transfer, and the transfer. -/
theorem remA_eq (b : Bool) (c : Dev nD) (h : ℕ) (hh : h < nh b) : remA b c h = remB b c h + tallyAt (cell (dst b c) (.rv b (sl (h + 1)))) h N := by
  have h16 : h < 16 := lt_of_lt_of_le hh (by cases b <;> decide)
  have hX : oweX b c h = tallyAt (cell (dst b c) (.rv b (sl (h + 1)))) h N := by unfold oweX; rw [if_pos hh]
  unfold remB
  rw [← hX]
  unfold remA
  rw [Finset.sum_eq_sum_Ico_succ_bot h16, add_comm, add_assoc]
/-- After the transfer it owes what it owes before the next hop, and the credit. -/
theorem remB_eq (b : Bool) (c : Dev nD) (h : ℕ) (hh : h + 1 < nh b) : remB b c h = remA b c (h + 1) + tallyAt (cell (src b c) (.cr b)) h 1 := by
  unfold remB oweC; rw [if_pos hh]
/-- After the last hop no transfer is owed, -/
theorem oweX_zero (b : Bool) (c : Dev nD) (h : ℕ) (hh : nh b ≤ h) : oweX b c h = 0 := by unfold oweX; rw [if_neg (by omega), tallyAt_zero]
/-- nor a credit after the last but one; -/
theorem oweC_zero (b : Bool) (c : Dev nD) (h : ℕ) (hh : nh b ≤ h + 1) : oweC b c h = 0 := by unfold oweC; rw [if_neg (by omega), tallyAt_zero]
/-- nothing at all is owed after the last hop, -/
theorem remA_zero (b : Bool) (c : Dev nD) (h : ℕ) (hh : nh b ≤ h) : remA b c h = 0 :=
  Finset.sum_eq_zero fun j hj => by
    have := (Finset.mem_Ico.mp hj).1
    rw [oweX_zero b c j (by omega), oweC_zero b c j (by omega), add_zero]
/-- nor after the last hop's transfer. -/
theorem remB_last (b : Bool) (c : Dev nD) (h : ℕ) (hh : nh b ≤ h + 1) : remB b c h = 0 := by
  unfold remB; rw [remA_zero b c _ hh, oweC_zero b c h hh, add_zero]

/-- Before hop `h`, all that is owed is above the level of the last hop's credits; -/
theorem above_remA (b : Bool) (c : Dev nD) (h : ℕ) : Above (2 * h + 2) (remA b c h) := Above.sum fun j hj => by
  have hj := Finset.mem_Ico.mp hj
  exact (Above.at _ _ _ _ _ (by omega) (show 2 * h + 2 < 2 * j + 4 by omega)).add (Above.at _ _ _ _ _ (by omega) (show 2 * h + 2 < 2 * j + 3 by omega))
/-- after its transfer, above the level of the hop's landing. -/
theorem above_remB (b : Bool) (c : Dev nD) (h : ℕ) (hh : h < 16) : Above (2 * h + 3) (remB b c h) :=
  ((above_remA b c (h + 1)).mono (by omega)).add (Above.at _ _ _ _ _ (by omega) (show 2 * h + 3 < 2 * h + 4 by omega))

/-! ## What all devices know -/

section Records

variable (W : Dev nD → Mats F)

/-- Every semaphore follows the schedule, each has begun, and the levels stand. -/
def records (K : Dev nD × Kd → ℕ) : sProp 𝕄 :=
  iprop((bigSep Finset.univ fun ck : Dev nD × Kd => cellInv ER (Rd W) (K ck) (cell ck.1 ck.2))
    ∗ (bigSep Finset.univ fun ck : Dev nD × Kd => reached ER (cell ck.1 ck.2) 0) ∗ levAts L lv)
instance records_persistent (K : Dev nD × Kd → ℕ) : BI.Persistent (records W K) := by unfold records; infer_instance

/-- So each semaphore follows it, -/
theorem records_inv (K : Dev nD × Kd → ℕ) (c : Dev nD) (k : Kd) : records W K ⊢ cellInv ER (Rd W) (K (c, k)) (cell c k) := by
  have h : (bigSep Finset.univ fun ck : Dev nD × Kd => (cellInv ER (Rd W) (K ck) (cell ck.1 ck.2) : sProp 𝕄)) ⊢ cellInv ER (Rd W) (K (c, k)) (cell c k) :=
    bigSep_elim (Finset.mem_univ (c, k))
  unfold records; iintro ⟨H, -, -⟩
  iapply h; iexact H
/-- each has begun, -/
theorem records_reached (K : Dev nD × Kd → ℕ) (c : Dev nD) (k : Kd) : records W K ⊢ reached ER (cell c k) 0 := by
  have h : (bigSep Finset.univ fun ck : Dev nD × Kd => (reached ER (cell ck.1 ck.2) 0 : sProp 𝕄)) ⊢ reached ER (cell c k) 0 :=
    bigSep_elim (Finset.mem_univ (c, k))
  unfold records; iintro ⟨-, H, -⟩
  iapply h; iexact H
/-- the levels stand, -/
theorem records_lev (K : Dev nD × Kd → ℕ) : records W K ⊢ (levAts L lv : sProp 𝕄) := by
  unfold records; iintro ⟨-, -, H⟩; iexact H

set_option maxRecDepth 20000 in
/-- and a device may wait below everything it owes. -/
theorem records_mayWait (K : Dev nD × Kd → ℕ) (c : Dev nD) (sm : SemLoc sig) (i : ℕ) (O : Tal) (hi : i < 17) (h : Above (lv ((c : Thread nD τ), sm) i) O) :
    records W K ⊢ MayWait (c : Thread nD τ) sm i O :=
  (records_lev W K).trans (mayWait c sm i O hi h)

end Records

end Cert.KernelIdeal.Ring

end
-- ==== Proof.Step.lean ====
/-
# One operation of a hop

What each operation of hop `h` in direction `b` takes and gives: the transfer, the load, the waits, the signals.
-/
module

public import proofs.«01_k».proof.Proof.Protocol
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- No loop needs a measure. -/
abbrev 𝒱₀ : Variants := Variants.none

/-- What a stretch of the kernel on device `c` needs for every way it ends to satisfy `Q`. -/
abbrev Wp (c : Dev nD) {α : Type} (p : Pr F α) (Q : α → sProp 𝕄) : sProp 𝕄 :=
  wp frame (wpE (defs₀ (F := F)) 𝒱₀ (c : Thread nD τ) none) Set.univ p Q

/-- Device `c` owes `O`. -/
def Ow (c : Dev nD) (O : Tal) : sProp 𝕄 := iprop(∃ W, owes (c : Thread nD τ) O W)

variable (W : Dev nD → Mats F) (K : Dev nD × Kd → ℕ) (c : Dev nD)

/-- A wait for one payment: it may be made below everything owed, and hands over the payment's content. -/
theorem step_wait {w : TpuEff nD τ sig (Elt F) Λ₀ .tc PUnit} (k : Kd) (r i n : ℕ) (O : Tal)
    (hw : ∀ Q : PUnit → sProp 𝕄, wpE (defs₀ (F := F)) 𝒱₀ (c : Thread nD τ) none Set.univ w Q = waitSpec (c : Thread nD τ) Set.univ (loc k) n Q)
    (hd : dutiesK k r = {false}) (hn : n = amountK k) (hi : i < 17) (hO : Above (lvK (some k) i) O) (Q : PUnit → sProp 𝕄) :
    iprop(records W K ∗ cred (tallyAt (cell c k) i n) ∗ Ow c O ∗ atPos ER (cell c k) r ∅ 0
        ∗ (Ow c O ∗ atPos ER (cell c k) (r + 1) ∅ 0 ∗ reached ER (cell c k) (r + 1) ∗ payK W c k r false -∗ Q ⟨⟩))
      ⊢ Wp c (Prog.lift w) Q := by
  have hO' : Above (lv (cell c k) i) O := by rw [lv_cell]; exact hO
  have hM := records_mayWait W K c (loc k) i O hi hO'
  unfold Ow Wp
  iintro ⟨#HR, Hc, ⟨%V, HO⟩, Hat, Hk⟩
  iapply (Rounds.wp_wait_rest_token 𝒱₀ ER (Rd W) (c : Thread nD τ) none (κ := K (c, k)) hw (Set.mem_univ _) i (O := O) (W := V) (R := r) (m := 0) (T := ∅)
      ((Nat.zero_add n).trans (hn.trans (expect_one W c k r hd).symm))) $$ [Hc HO Hat]
  · isplitr; · iapply (records_inv W K c k); iexact HR
    isplitl [Hc]; · iexact Hc
    isplitl [HO]; · iexact HO
    isplitr
    · iapply hM; iexact HR
    iexact Hat
  iintro ⟨HO, Hat, Hr, Hpay⟩
  rw [wp_ret]; imodintro
  iapply Hk
  isplitl [HO]; · iexists _; iexact HO
  isplitl [Hat]; · iexact Hat
  isplitl [Hr]; · iexact Hr
  iapply (Entails.of_eq (rest_one W c k r hd)); iexact Hpay

/-- A signal of one unit. -/
theorem step_signal (n : Dev nD) (q : Sem sig) (k : Kd) (hq : loc k = .reg q) (r i : ℕ) (d : Bool) (O : Tal) (hd : d ∈ dutiesK k r) (hk : amountK k = 1) (Q : PUnit → sProp 𝕄) :
    iprop(records W K ∗ Ow c (O + tallyAt (cell n k) i 1) ∗ dutyTok ER (cell n k) r d ∗ payK W n k r d ∗ reached ER (cell n k) r
        ∗ (Ow c O -∗ Q ⟨⟩))
      ⊢ Wp c (semSignalWord n q 1#32) Q := by
  have hp : (semSignalWord n q 1#32 : Pr F PUnit) = .op (.semSignal (n : Thread nD τ) q 1) .ret := rfl
  rw [hp]
  unfold Ow Wp
  iintro ⟨#HR, ⟨%V, HO⟩, Ht, Hpay, Hr, Hk⟩
  have hc : cell n k = ((n : Thread nD τ), .reg q) := by unfold cell; rw [hq]
  have hinv := records_inv W K n k
  rw [hc] at hinv ⊢
  iapply (Rounds.wp_signal 𝒱₀ ER (Rd W) (c : Thread nD τ) none (dst := (n : Thread nD τ)) (sem := q) (κ := K (n, k)) (r := r)
      (d := d) (k' := 1) (by rw [← hc, duties_cell]; exact hd) (by rw [← hc, amount_cell, hk]) i O rfl) $$ [HO Ht Hpay Hr]
  · isplitr; · iapply hinv; iexact HR
    isplitl [HO]; · iexact HO
    isplitl [Ht]; · iexact Ht
    isplitl [Hpay]
    · rw [← hc, payload_cell]; iexact Hpay
    · iexact Hr
  iintro HO
  rw [wp_ret]; imodintro
  iapply Hk
  iexists _; iexact HO

variable (b : Bool) (h : ℕ)

/-- The departure of hop `h` is one payment of its round, -/
theorem duties_sd (hh : h < nh b) : dutiesK (.sd b (sl h)) (h / 2) = {false} := by
  unfold dutiesK sl; dsimp only; rw [if_pos (by omega)]
/-- so is its landing, -/
theorem duties_rv (hh : h < nh b) : dutiesK (.rv b (sl (h + 1))) (h / 2) = {false} := by
  unfold dutiesK sl; dsimp only; rw [if_pos (by omega)]
/-- and so is its credit. -/
theorem duties_cr (hh : h + 1 < nh b) : dutiesK (.cr b) h = {false} := if_pos hh

/-- The departure gives the half share of the slot back; -/
theorem pay_sd : payK W c (.sd b (sl h)) (h / 2) false = Holds b c (sl h) fullShare.left (W (org b h c)) := by
  unfold payK sl; dsimp only; rw [show 2 * (h / 2) + h % 2 = h by omega]
/-- the landing gives the slot with the sender's matrices, and how far the sender has come. -/
theorem pay_rv : payK W c (.rv b (sl (h + 1))) (h / 2) false
    = iprop(Holds b c (sl (h + 1)) fullShare (W (org b (h + 1) c)) ∗ reached ER (cell (src b c) (.cr b)) h) := by
  unfold payK sl; dsimp only; rw [show 2 * (h / 2) + (1 - (h + 1) % 2) = h by omega]
/-- There are at most sixteen hops in a direction. -/
theorem nh_le : nh b ≤ 16 := by cases b <;> decide

/-- The transfer of hop `h`: it reads half a share of the slot and takes the neighbour's free slot. -/
theorem step_send (hh : h < nh b) (O : Tal) (Q : PUnit → sProp 𝕄) :
    iprop(records W K ∗ Holds b c (sl h) fullShare.left (W (org b h c)) ∗ Any b (dst b c) (sl (h + 1))
        ∗ reached ER (cell (dst b c) (.rv b (sl (h + 1)))) (h / 2) ∗ reached ER (cell c (.sd b (sl h))) (h / 2) ∗ reached ER (cell c (.cr b)) h
        ∗ dutyTok ER (cell c (.sd b (sl h))) (h / 2) false ∗ dutyTok ER (cell (dst b c) (.rv b (sl (h + 1)))) (h / 2) false
        ∗ Ow c (O + tallyAt (cell (dst b c) (.rv b (sl (h + 1)))) h N)
        ∗ (cred (tallyAt (cell c (.sd b (sl h))) h N) ∗ Ow c O -∗ Q ⟨⟩))
      ⊢ Wp c (sendB c b h) Q := by
  unfold Ow Wp sendB Any Holds
  iintro ⟨#HR, Hs, ⟨%fd, Hd⟩, Hrv, Hrs, Hrc, Hts, Htv, ⟨%V, HO⟩, Hk⟩
  iapply (Rounds.wp_send_pointsTo_with 𝒱₀ ER (Rd W) (c : Thread nD τ) none (c' := (dst b c : Thread nD τ)) (src := buf b (sl h)) (dst := buf b (sl (h + 1)))
    (sS := loc (.sd b (sl h))) (sem := loc (.rv b (sl (h + 1)))) (κ₁ := K (c, .sd b (sl h))) (κ₂ := K (dst b c, .rv b (sl (h + 1))))
    (q := fullShare.left) (fs := (half b (sl h)).view.rep (W (org b h c))) (fd := fd) (F := reached ER (cell c (.cr b)) h)
    (r₁ := h / 2) (r₂ := h / 2) (d₁ := false) (d₂ := false)
    (by rw [show ((c : Thread nD τ), loc (.sd b (sl h))) = cell c (.sd b (sl h)) from rfl, duties_cell, duties_sd b h hh]; exact Finset.mem_singleton_self _)
    (by rw [show ((dst b c : Thread nD τ), loc (.rv b (sl (h + 1)))) = cell (dst b c) (.rv b (sl (h + 1))) from rfl, duties_cell, duties_rv b h hh]; exact Finset.mem_singleton_self _)
    h h N (credit_eq b _) (amount_cell W c (.sd b (sl h)) _ _) (amount_cell W (dst b c) (.rv b (sl (h + 1))) _ _) O rfl (W := V)
    (by rw [show ((c : Thread nD τ), loc (.sd b (sl h))) = cell c (.sd b (sl h)) from rfl, payload_cell, pay_sd, buf_set]; rfl)
    (by
      rw [landed, show ((dst b c : Thread nD τ), loc (.rv b (sl (h + 1)))) = cell (dst b c) (.rv b (sl (h + 1))) from rfl, payload_cell, pay_rv, src_dst, org_dst])) $$ [Hs Hd Hrv Hrs Hrc Hts Htv HO]
  · isplitr; · iapply (records_inv W K c (.sd b (sl h))); iexact HR
    isplitr; · iapply (records_inv W K (dst b c) (.rv b (sl (h + 1)))); iexact HR
    isplitl [Hs]; · rw [buf_set]; iexact Hs
    isplitl [Hd Hrc]
    · isplitl [Hd]; · rw [buf_set]; iexact Hd
      iexact Hrc
    isplitl [HO]; · iexact HO
    isplitl [Hts]; · iexact Hts
    isplitl [Hrs]; · iexact Hrs
    isplitl [Htv]; · iexact Htv
    iexact Hrv
  iintro ⟨Hc, HO⟩
  rw [wp_ret]; imodintro
  iapply Hk
  isplitl [Hc]; · iexact Hc
  iexists _; iexact HO

/-- The load of a slot reads what it holds. -/
theorem step_load (q : PosShare TreeShare) (w : Mats F) (Q : Mats F → sProp 𝕄) :
    iprop(Holds b c (sl h) q w ∗ (Holds b c (sl h) q w -∗ Q w)) ⊢ Wp c (loadB b h) Q := by
  unfold Wp loadB Holds
  iintro ⟨Hs, Hk⟩
  iapply (wp_load_rect 𝒱₀ (c : Thread nD τ) none Set.univ (m := comm b) (r := slot (sl h)) (S := (half b (sl h)).view.set) (Finset.Subset.refl _)) $$ Hs
  iintro Hs
  rw [wp_ret]; imodintro
  rw [show ((comm b).access (slot (sl h))).read (Elt F) ((half b (sl h)).view.rep w) = w from View.read_rep _ _]
  iapply Hk; iexact Hs

/-- The wait for the transfer of hop `h` to have left. -/
theorem step_waitSd (hh : h < nh b) (O : Tal) (hO : Above 0 O) (Q : PUnit → sProp 𝕄) :
    iprop(records W K ∗ cred (tallyAt (cell c (.sd b (sl h))) h N) ∗ Ow c O ∗ atPos ER (cell c (.sd b (sl h))) (h / 2) ∅ 0
        ∗ (Ow c O ∗ atPos ER (cell c (.sd b (sl h))) (h / 2 + 1) ∅ 0 ∗ reached ER (cell c (.sd b (sl h))) (h / 2 + 1)
            ∗ Holds b c (sl h) fullShare.left (W (org b h c)) -∗ Q ⟨⟩))
      ⊢ Wp c (waitSd b h) Q := by
  rw [← pay_sd]
  exact step_wait W K c (.sd b (sl h)) (h / 2) h N O
    (fun Q => (wpE_waitDma2_eq 𝒱₀ (c : Thread nD τ) none Set.univ Q).trans (by rw [credit_eq b (sl h)]; rfl)) (duties_sd b h hh) rfl (by have := nh_le b; omega) hO Q

/-- The wait for the transfer of hop `h` to have landed. -/
theorem step_waitRv (hh : h < nh b) (O : Tal) (hO : Above (2 * h + 3) O) (Q : PUnit → sProp 𝕄) :
    iprop(records W K ∗ cred (tallyAt (cell c (.rv b (sl (h + 1)))) h N) ∗ Ow c O ∗ atPos ER (cell c (.rv b (sl (h + 1)))) (h / 2) ∅ 0
        ∗ (Ow c O ∗ atPos ER (cell c (.rv b (sl (h + 1)))) (h / 2 + 1) ∅ 0 ∗ reached ER (cell c (.rv b (sl (h + 1)))) (h / 2 + 1)
            ∗ (Holds b c (sl (h + 1)) fullShare (W (org b (h + 1) c)) ∗ reached ER (cell (src b c) (.cr b)) h) -∗ Q ⟨⟩))
      ⊢ Wp c (waitRv b h) Q := by
  rw [← pay_rv]
  exact step_wait W K c (.rv b (sl (h + 1))) (h / 2) h N O
    (fun Q => (wpE_waitDma2_eq 𝒱₀ (c : Thread nD τ) none Set.univ Q).trans (by rw [credit_eq b (sl (h + 1))]; rfl)) (duties_rv b h hh) rfl (by have := nh_le b; omega) hO Q

/-- The wait for the credit of hop `h`. -/
theorem step_waitCr (hh : h + 1 < nh b) (O : Tal) (hO : Above (2 * h + 4) O) (Q : PUnit → sProp 𝕄) :
    iprop(records W K ∗ cred (tallyAt (cell c (.cr b)) h 1) ∗ Ow c O ∗ atPos ER (cell c (.cr b)) h ∅ 0
        ∗ (Ow c O ∗ atPos ER (cell c (.cr b)) (h + 1) ∅ 0 ∗ reached ER (cell c (.cr b)) (h + 1)
            ∗ (Any b (dst b c) (sl h) ∗ reached ER (cell (dst b c) (.rv b (sl h))) ((h + 1) / 2)) -∗ Q ⟨⟩))
      ⊢ Wp c (waitCr b) Q :=
  step_wait W K c (.cr b) h h 1 O (fun Q => wpE_semWait_eq 𝒱₀ (c : Thread nD τ) none Set.univ Q) (duties_cr b h hh) rfl (by have := nh_le b; omega) hO Q

/-- The credit of hop `h`, to the neighbour the matrices come from. -/
theorem step_sigCr (hh : h + 1 < nh b) (O : Tal) (Q : PUnit → sProp 𝕄) :
    iprop(records W K ∗ Ow c (O + tallyAt (cell (src b c) (.cr b)) h 1) ∗ dutyTok ER (cell (src b c) (.cr b)) h false
        ∗ (Any b c (sl h) ∗ reached ER (cell c (.rv b (sl h))) ((h + 1) / 2)) ∗ reached ER (cell (src b c) (.cr b)) h ∗ (Ow c O -∗ Q ⟨⟩))
      ⊢ Wp c (sigCr c b) Q := by
  have := step_signal W K c (src b c) (crSem b) (.cr b) rfl h h false O (by rw [duties_cr b h hh]; exact Finset.mem_singleton_self _) rfl Q
  unfold payK at this; dsimp only at this; rw [dst_src] at this
  exact this

end Cert.KernelIdeal.Ring

end
-- ==== Proof.Hop.lean ====
/-
# One hop

What a device holds in one direction before, within and after a hop, and the hops of the kernel one by one.
-/
module

public import proofs.«01_k».proof.Proof.Step

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (W : Dev nD → Mats F) (K : Dev nD × Kd → ℕ)

/-! ## What a device holds in direction `b` -/

section One

variable (b : Bool) (c : Dev nD)

/-- The right to make the three payments of hop `j`: its transfer's two and the credit at its end. -/
def tok (j : ℕ) : sProp 𝕄 :=
  iprop(dutyTok ER (cell c (.sd b (sl j))) (j / 2) false ∗ dutyTok ER (cell (dst b c) (.rv b (sl (j + 1)))) (j / 2) false
    ∗ dutyTok ER (cell (src b c) (.cr b)) j false)
/-- The landing of hop `j` is owed to this device. -/
def crdV (j : ℕ) : sProp 𝕄 := cred (tallyAt (cell c (.rv b (sl (j + 1)))) j (if j < nh b then N else 0))
/-- The credit of hop `j` is owed to this device. -/
def crdC (j : ℕ) : sProp 𝕄 := cred (tallyAt (cell c (.cr b)) j (if j + 1 < nh b then 1 else 0))

/-- How far each semaphore has come before hop `h`, when `k` credits have been taken; and the later hops' rights. -/
def Cnt (h k : ℕ) : sProp 𝕄 :=
  iprop(atPos ER (cell c (.cr b)) k ∅ 0
    ∗ atPos ER (cell c (.sd b (sl h))) (h / 2) ∅ 0 ∗ atPos ER (cell c (.sd b (sl (h + 1)))) ((h + 1) / 2) ∅ 0
    ∗ atPos ER (cell c (.rv b (sl (h + 1)))) (h / 2) ∅ 0 ∗ atPos ER (cell c (.rv b (sl h))) ((h + 1) / 2) ∅ 0
    ∗ reached ER (cell c (.sd b (sl h))) (h / 2) ∗ reached ER (cell c (.sd b (sl (h + 1)))) ((h + 1) / 2)
    ∗ reached ER (cell c (.rv b (sl h))) ((h + 1) / 2)
    ∗ bigSep (Finset.Ico h 16) (tok b c) ∗ bigSep (Finset.Ico h 16) (crdV b c) ∗ bigSep (Finset.Ico k 16) (crdC b c))

/-- Before hop `h`, `k` credits taken: this hop's slot is the device's, with the matrices it is to send on. -/
def St (h k : ℕ) : sProp 𝕄 := iprop(Holds b c (sl h) fullShare (W (org b h c)) ∗ Cnt b c h k)

/-- The neighbour's slot for hop `h` is free, and this device knows it. -/
def Free (h : ℕ) : sProp 𝕄 :=
  iprop(Any b (dst b c) (sl (h + 1)) ∗ reached ER (cell (dst b c) (.rv b (sl (h + 1)))) (h / 2) ∗ reached ER (cell c (.cr b)) h)

/-- After the transfer of hop `h` is on its way: half a share of the slot, and everything to wait with. -/
def Mid (h : ℕ) : sProp 𝕄 :=
  iprop(Holds b c (sl h) fullShare.right (W (org b h c)) ∗ cred (tallyAt (cell c (.sd b (sl h))) h N)
    ∗ atPos ER (cell c (.cr b)) h ∅ 0
    ∗ atPos ER (cell c (.sd b (sl h))) (h / 2) ∅ 0 ∗ atPos ER (cell c (.sd b (sl (h + 1)))) ((h + 1) / 2) ∅ 0
    ∗ atPos ER (cell c (.rv b (sl (h + 1)))) (h / 2) ∅ 0 ∗ atPos ER (cell c (.rv b (sl h))) ((h + 1) / 2) ∅ 0
    ∗ reached ER (cell c (.sd b (sl (h + 1)))) ((h + 1) / 2) ∗ reached ER (cell c (.rv b (sl h))) ((h + 1) / 2)
    ∗ dutyTok ER (cell (src b c) (.cr b)) h false
    ∗ bigSep (Finset.Ico (h + 1) 16) (tok b c) ∗ bigSep (Finset.Ico h 16) (crdV b c) ∗ bigSep (Finset.Ico h 16) (crdC b c))

/-- After the waits of hop `h`: the next hop's state, and the old slot, to be given away with the credit. -/
def Done (h : ℕ) : sProp 𝕄 :=
  iprop(St W b c (h + 1) h ∗ Any b c (sl h) ∗ reached ER (cell c (.rv b (sl h))) ((h + 1) / 2)
    ∗ dutyTok ER (cell (src b c) (.cr b)) h false ∗ reached ER (cell (src b c) (.cr b)) h)

/-- Of what is kept for the hops from `h` on, the part of hop `h`. -/
theorem pop (Φ : ℕ → sProp 𝕄) (h : ℕ) (hh : h < 16) : bigSep (Finset.Ico h 16) Φ = iprop(Φ h ∗ bigSep (Finset.Ico (h + 1) 16) Φ) := by
  rw [show Finset.Ico h 16 = insert h (Finset.Ico (h + 1) 16) by ext j; simp only [Finset.mem_Ico, Finset.mem_insert]; omega]
  exact bigSep_insert (by simp)

variable {b c} {h : ℕ}

/-- The credit of hop `h` lets the transfer of hop `h + 1` go. -/
theorem dir_wait (hh : h + 1 < nh b) {O : Tal} (hO : Above (2 * h + 4) O) (Q : PUnit → sProp 𝕄) :
    iprop(records W K ∗ St W b c (h + 1) h ∗ Ow c O ∗ (St W b c (h + 1) (h + 1) ∗ Free b c (h + 1) ∗ Ow c O -∗ Q ⟨⟩)) ⊢ Wp c (waitCr b) Q := by
  have h16 : h < 16 := by have := nh_le b; omega
  unfold St Cnt Free
  rw [pop (crdC b c) h h16]
  unfold crdC
  rw [if_pos hh, sl_succ_succ]
  iintro ⟨#HR, ⟨Hs, Hc, H1, H2, H3, H4, H5, H6, H7, H8, H9, Hcr, H10⟩, HO, Hk⟩
  iapply (step_waitCr W K c b h hh O hO Q)
  isplitr; · iexact HR
  isplitl [Hcr]; · iexact Hcr
  isplitl [HO]; · iexact HO
  isplitl [Hc]; · iexact Hc
  iintro ⟨HO, Hc, Hrc, Ha, Hrv⟩
  iapply Hk
  isplitr [Ha Hrv Hrc HO]
  · isplitl [Hs]; · iexact Hs
    isplitl [Hc]; · iexact Hc
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitr [HO]
  · isplitl [Ha]; · iexact Ha
    isplitl [Hrv]; · iexact Hrv
    iexact Hrc
  iexact HO

/-- The transfer of hop `h`. -/
theorem dir_send (hh : h < nh b) {O O₀ O₁ : Tal} (h₀ : O₀ = remA b c h + O) (h₁ : O₁ = remB b c h + O) (Q : PUnit → sProp 𝕄) :
    iprop(records W K ∗ St W b c h h ∗ Free b c h ∗ Ow c O₀ ∗ (Mid W b c h ∗ Ow c O₁ -∗ Q ⟨⟩)) ⊢ Wp c (sendB c b h) Q := by
  have h16 : h < 16 := by have := nh_le b; omega
  rw [h₀, h₁, remA_eq b c h hh, add_right_comm]
  unfold St Cnt Free Mid
  rw [pop (tok b c) h h16, show (tok (F := F) b c h) = _ from rfl]
  unfold tok
  iintro ⟨#HR, ⟨Hs, Hc, H1, H2, H3, H4, #H5, H6, H7, ⟨⟨Ht1, Ht2, Ht3⟩, Ht⟩, H8, H9⟩, ⟨Ha, Hrv, Hrc⟩, HO, Hk⟩
  ihave Hs2 := (holds_halves b c (sl h) (W (org b h c))).1 $$ Hs
  icases Hs2 with ⟨HsL, HsR⟩
  iapply (step_send W K c b h hh (remB b c h + O) Q)
  isplitr; · iexact HR
  isplitl [HsL]; · iexact HsL
  isplitl [Ha]; · iexact Ha
  isplitl [Hrv]; · iexact Hrv
  isplitr; · iexact H5
  isplitl [Hrc]; · iexact Hrc
  isplitl [Ht1]; · iexact Ht1
  isplitl [Ht2]; · iexact Ht2
  isplitl [HO]; · iexact HO
  iintro ⟨Hcs, HO⟩
  iapply Hk
  isplitr [HO]
  · isplitl [HsR]; · iexact HsR
    isplitl [Hcs]; · iexact Hcs
    isplitl [Hc]; · iexact Hc
    isplitl [H1]; · iexact H1
    isplitl [H2]; · iexact H2
    isplitl [H3]; · iexact H3
    isplitl [H4]; · iexact H4
    isplitl [H6]; · iexact H6
    isplitl [H7]; · iexact H7
    isplitl [Ht3]; · iexact Ht3
    isplitl [Ht]; · iexact Ht
    isplitl [H8]; · iexact H8
    iexact H9
  iexact HO

/-- The loads of a hop's slot: while the transfer is on its way, and before. -/
theorem dir_load (Q : Mats F → sProp 𝕄) : iprop(Mid W b c h ∗ (Mid W b c h -∗ Q (W (org b h c)))) ⊢ Wp c (loadB b h) Q := by
  unfold Mid
  iintro ⟨⟨Hs, Hr⟩, Hk⟩
  iapply (step_load c b h fullShare.right (W (org b h c)) Q)
  isplitl [Hs]; · iexact Hs
  iintro Hs
  iapply Hk
  isplitl [Hs]; · iexact Hs
  iexact Hr
/-- The same before the transfer, when the slot is held whole. -/
theorem dir_load' {k : ℕ} (Q : Mats F → sProp 𝕄) : iprop(St W b c h k ∗ (St W b c h k -∗ Q (W (org b h c)))) ⊢ Wp c (loadB b h) Q := by
  unfold St
  iintro ⟨⟨Hs, Hr⟩, Hk⟩
  iapply (step_load c b h fullShare (W (org b h c)) Q)
  isplitl [Hs]; · iexact Hs
  iintro Hs
  iapply Hk
  isplitl [Hs]; · iexact Hs
  iexact Hr

/-- The two waits of a hop in one direction. -/
theorem dir_waits (hh : h < nh b) {O : Tal} (hO : Above (2 * h + 3) O) (Q : PUnit → sProp 𝕄) :
    iprop(records W K ∗ Mid W b c h ∗ Ow c O ∗ (Done W b c h ∗ Ow c O -∗ Q ⟨⟩)) ⊢ Wp c (waitSd b h) (fun _ => Wp c (waitRv b h) Q) := by
  have h16 : h < 16 := by have := nh_le b; omega
  unfold Done St Cnt Mid
  rw [pop (crdV b c) h h16, show (crdV (F := F) b c h) = _ from rfl]
  unfold crdV
  rw [if_pos hh, sl_succ_succ, show (h + 1 + 1) / 2 = h / 2 + 1 by omega]
  iintro ⟨#HR, ⟨HsR, Hcs, Hc, H1, H2, H3, H4, H5, #H6, Ht, H7, ⟨Hcv, H8⟩, H9⟩, HO, Hk⟩
  iapply (step_waitSd W K c b h hh O (hO.mono (Nat.zero_le _)))
  isplitr; · iexact HR
  isplitl [Hcs]; · iexact Hcs
  isplitl [HO]; · iexact HO
  isplitl [H1]; · iexact H1
  iintro ⟨HO, H1, Hr1, HsL⟩
  ihave Hs := (holds_halves b c (sl h) (W (org b h c))).2 $$ [HsL HsR]
  · isplitl [HsL] <;> iassumption
  iapply (step_waitRv W K c b h hh O hO Q)
  isplitr; · iexact HR
  isplitl [Hcv]; · iexact Hcv
  isplitl [HO]; · iexact HO
  isplitl [H3]; · iexact H3
  iintro ⟨HO, H3, Hr3, Hn, Hrc⟩
  iapply Hk
  isplitr [HO]
  · isplitr [Hs Ht Hrc]
    · isplitl [Hn]; · iexact Hn
      isplitl [Hc]; · iexact Hc
      isplitl [H2]; · iexact H2
      isplitl [H1]; · iexact H1
      isplitl [H4]; · iexact H4
      isplitl [H3]; · iexact H3
      isplitl [H5]; · iexact H5
      isplitl [Hr1]; · iexact Hr1
      isplitl [Hr3]; · iexact Hr3
      isplitl [H7]; · iexact H7
      isplitl [H8]; · iexact H8
      iexact H9
    isplitl [Hs]; · iapply (any_of_holds b c (sl h) (W (org b h c))); iexact Hs
    isplitr; · iexact H6
    isplitl [Ht]; · iexact Ht
    iexact Hrc
  iexact HO

/-- The credit at the end of hop `h`. -/
theorem dir_sig (hh : h + 1 < nh b) {O O₀ O₁ : Tal} (h₀ : O₀ = remB b c h + O) (h₁ : O₁ = remA b c (h + 1) + O) (Q : PUnit → sProp 𝕄) :
    iprop(records W K ∗ Done W b c h ∗ Ow c O₀ ∗ (St W b c (h + 1) h ∗ Ow c O₁ -∗ Q ⟨⟩)) ⊢ Wp c (sigCr c b) Q := by
  rw [h₀, h₁, remB_eq b c h hh, add_right_comm]
  unfold Done
  iintro ⟨#HR, ⟨Hst, Ha, Hr, Ht, Hrc⟩, HO, Hk⟩
  iapply (step_sigCr W K c b h hh (remA b c (h + 1) + O) Q)
  isplitr; · iexact HR
  isplitl [HO]; · iexact HO
  isplitl [Ht]; · iexact Ht
  isplitl [Ha Hr]
  · isplitl [Ha] <;> iassumption
  isplitl [Hrc]; · iexact Hrc
  iintro HO
  iapply Hk
  isplitl [Hst] <;> iassumption

end One

/-! ## The hops -/

section Hops

variable (x : FVec F S512x256 .f32) (route : IVec S512x1 32) (p : FVec F S512x1 .f32) (c : Dev nD)

/-- A value that is returned. -/
theorem ends_with {α : Type} (v : α) (Q : α → sProp 𝕄) : Q v ⊢ Wp (F := F) c (pure v) Q := by
  show _ ⊢ wp _ _ _ (.ret v) Q
  rw [wp_ret]
  exact fupd_intro

/-- The four waits of a hop. -/
theorem hop_waits (h : ℕ) (hh : h < 15) {O : Tal} (hO : Above (2 * h + 3) O) (Q : PUnit → sProp 𝕄) :
    iprop(records W K ∗ Mid W true c h ∗ Mid W false c h ∗ Ow c O ∗ (Done W true c h ∗ Done W false c h ∗ Ow c O -∗ Q ⟨⟩)) ⊢ Wp c (waitsB h) Q := by
  unfold waitsB Wp
  simp only [wp_bind]
  iintro ⟨#HR, HT, HF, HO, Hk⟩
  iapply (dir_waits W K (b := true) (c := c) (h := h) (show h < 16 by omega) hO)
  isplitr; · iexact HR
  isplitl [HT]; · iexact HT
  isplitl [HO]; · iexact HO
  iintro ⟨HT, HO⟩
  iapply (dir_waits W K (b := false) (c := c) (h := h) (show h < 15 by omega) hO)
  isplitr; · iexact HR
  isplitl [HF]; · iexact HF
  isplitl [HO]; · iexact HO
  iintro ⟨HF, HO⟩
  iapply Hk
  isplitl [HT]; · iexact HT
  isplitl [HF] <;> iassumption

/-- Hop 0. -/
theorem hop_first (acc : FVec F S512x512 .f32) (Q : FVec F S512x512 .f32 → sProp 𝕄) :
    iprop(records W K ∗ (St W true c 0 0 ∗ Free true c 0) ∗ (St W false c 0 0 ∗ Free false c 0) ∗ Ow c (remA true c 0 + remA false c 0)
        ∗ (St W true c 1 0 ∗ St W false c 1 0 ∗ Ow c (remA true c 1 + remA false c 1) -∗ Q (add1 x route p acc (idW c) (W c))))
      ⊢ Wp c (hopFst x route p c acc) Q := by
  unfold hopFst Wp
  simp only [wp_bind]
  iintro ⟨#HR, ⟨HT, HfT⟩, ⟨HF, HfF⟩, HO, Hk⟩
  iapply (dir_send W K (b := true) (c := c) (h := 0) (by decide) (O := remA false c 0) rfl rfl)
  isplitr; · iexact HR
  isplitl [HT]; · iexact HT
  isplitl [HfT]; · iexact HfT
  isplitl [HO]; · iexact HO
  iintro ⟨HT, HO⟩
  iapply (dir_send W K (b := false) (c := c) (h := 0) (by decide) (O := remB true c 0) (add_comm _ _) rfl)
  isplitr; · iexact HR
  isplitl [HF]; · iexact HF
  isplitl [HfF]; · iexact HfF
  isplitl [HO]; · iexact HO
  iintro ⟨HF, HO⟩
  iapply (dir_load W (b := true) (c := c) (h := 0))
  isplitl [HT]; · iexact HT
  iintro HT
  iapply (hop_waits W K c 0 (by decide) ((above_remB false c 0 (by decide)).add (above_remB true c 0 (by decide))))
  isplitr; · iexact HR
  isplitl [HT]; · iexact HT
  isplitl [HF]; · iexact HF
  isplitl [HO]; · iexact HO
  iintro ⟨HT, HF, HO⟩
  iapply (dir_sig W K (b := true) (c := c) (h := 0) (by decide) (O := remB false c 0) (add_comm _ _) rfl)
  isplitr; · iexact HR
  isplitl [HT]; · iexact HT
  isplitl [HO]; · iexact HO
  iintro ⟨HT, HO⟩
  iapply (dir_sig W K (b := false) (c := c) (h := 0) (by decide) (O := remA true c 1) (add_comm _ _) (add_comm _ _))
  isplitr; · iexact HR
  isplitl [HF]; · iexact HF
  isplitl [HO]; · iexact HO
  iintro ⟨HF, HO⟩
  iapply (ends_with c (add1 x route p acc (idW c) (W c)) Q)
  iapply Hk
  isplitl [HT]; · iexact HT
  isplitl [HF] <;> iassumption

/-- What hop `h` adds. -/
def acc2 (h : ℕ) (acc : FVec F S512x512 .f32) : FVec F S512x512 .f32 :=
  add2 x route p acc (orgR c (BitVec.ofNat 32 h)) (W (org true h c)) (orgL c (BitVec.ofNat 32 h)) (W (org false h c))

/-- Hop `h + 1`, up to 14, without the left-going credit. -/
theorem hop_both (h : ℕ) (hh : h < 14) (acc : FVec F S512x512 .f32) (Q : FVec F S512x512 .f32 → sProp 𝕄) :
    iprop(records W K ∗ St W true c (h + 1) h ∗ St W false c (h + 1) h ∗ Ow c (remA true c (h + 1) + remA false c (h + 1))
        ∗ (St W true c (h + 1 + 1) (h + 1) ∗ Done W false c (h + 1) ∗ Ow c (remA true c (h + 1 + 1) + remB false c (h + 1)) -∗ Q (acc2 W x route p c (h + 1) acc)))
      ⊢ Wp c (hopB x route p c (h + 1) acc) Q := by
  have hT : h + 1 < nh true := show h + 1 < 16 by omega
  have hF : h + 1 < nh false := show h + 1 < 15 by omega
  have hT' : h + 1 + 1 < nh true := show h + 1 + 1 < 16 by omega
  unfold hopB Wp
  simp only [wp_bind]
  iintro ⟨#HR, HT, HF, HO, Hk⟩
  iapply (dir_wait W K (b := true) (c := c) (h := h) hT ((above_remA true c (h + 1)).add (above_remA false c (h + 1))))
  isplitr; · iexact HR
  isplitl [HT]; · iexact HT
  isplitl [HO]; · iexact HO
  iintro ⟨HT, HfT, HO⟩
  iapply (dir_send W K (b := true) (c := c) (h := h + 1) hT (O := remA false c (h + 1)) rfl rfl)
  isplitr; · iexact HR
  isplitl [HT]; · iexact HT
  isplitl [HfT]; · iexact HfT
  isplitl [HO]; · iexact HO
  iintro ⟨HT, HO⟩
  iapply (dir_wait W K (b := false) (c := c) (h := h) hF (((above_remB true c (h + 1) (by omega)).mono (by omega)).add (above_remA false c (h + 1))))
  isplitr; · iexact HR
  isplitl [HF]; · iexact HF
  isplitl [HO]; · iexact HO
  iintro ⟨HF, HfF, HO⟩
  iapply (dir_send W K (b := false) (c := c) (h := h + 1) hF (O := remB true c (h + 1)) (add_comm _ _) rfl)
  isplitr; · iexact HR
  isplitl [HF]; · iexact HF
  isplitl [HfF]; · iexact HfF
  isplitl [HO]; · iexact HO
  iintro ⟨HF, HO⟩
  iapply (dir_load W (b := true) (c := c) (h := h + 1))
  isplitl [HT]; · iexact HT
  iintro HT
  iapply (dir_load W (b := false) (c := c) (h := h + 1))
  isplitl [HF]; · iexact HF
  iintro HF
  iapply (hop_waits W K c (h + 1) (by omega) ((above_remB false c (h + 1) (by omega)).add (above_remB true c (h + 1) (by omega))))
  isplitr; · iexact HR
  isplitl [HT]; · iexact HT
  isplitl [HF]; · iexact HF
  isplitl [HO]; · iexact HO
  iintro ⟨HT, HF, HO⟩
  iapply (dir_sig W K (b := true) (c := c) (h := h + 1) hT' (O := remB false c (h + 1)) (add_comm _ _) rfl)
  isplitr; · iexact HR
  isplitl [HT]; · iexact HT
  isplitl [HO]; · iexact HO
  iintro ⟨HT, HO⟩
  iapply (ends_with c (acc2 W x route p c (h + 1) acc) Q)
  iapply Hk
  isplitl [HT]; · iexact HT
  isplitl [HF] <;> iassumption

/-- Hop `h + 1`, up to 13. -/
theorem hop_mid (h : ℕ) (hh : h < 13) (acc : FVec F S512x512 .f32) (Q : FVec F S512x512 .f32 → sProp 𝕄) :
    iprop(records W K ∗ St W true c (h + 1) h ∗ St W false c (h + 1) h ∗ Ow c (remA true c (h + 1) + remA false c (h + 1))
        ∗ (St W true c (h + 1 + 1) (h + 1) ∗ St W false c (h + 1 + 1) (h + 1) ∗ Ow c (remA true c (h + 1 + 1) + remA false c (h + 1 + 1))
            -∗ Q (acc2 W x route p c (h + 1) acc)))
      ⊢ Wp c (hopM x route p c (h + 1) acc) Q := by
  unfold hopM
  unfold Wp
  simp only [wp_bind]
  iintro ⟨#HR, HT, HF, HO, Hk⟩
  iapply (hop_both W K x route p c h (by omega) acc)
  isplitr; · iexact HR
  isplitl [HT]; · iexact HT
  isplitl [HF]; · iexact HF
  isplitl [HO]; · iexact HO
  iintro ⟨HT, HF, HO⟩
  iapply (dir_sig W K (b := false) (c := c) (h := h + 1) (show h + 1 + 1 < 15 by omega) (O := remA true c (h + 1 + 1)) (add_comm _ _) (add_comm _ _))
  isplitr; · iexact HR
  isplitl [HF]; · iexact HF
  isplitl [HO]; · iexact HO
  iintro ⟨HF, HO⟩
  iapply (ends_with c (acc2 W x route p c (h + 1) acc) Q)
  iapply Hk
  isplitl [HT]; · iexact HT
  isplitl [HF] <;> iassumption

/-- What the hops `1, …, n` add. -/
def accs (acc : FVec F S512x512 .f32) : ℕ → FVec F S512x512 .f32
  | 0 => acc
  | n + 1 => acc2 W x route p c (n + 1) (accs acc n)

/-- The hops `1, …, n`. -/
theorem hop_hops (acc : FVec F S512x512 .f32) : ∀ (n : ℕ), n ≤ 13 → ∀ (Q : FVec F S512x512 .f32 → sProp 𝕄),
    iprop(records W K ∗ St W true c 1 0 ∗ St W false c 1 0 ∗ Ow c (remA true c 1 + remA false c 1)
        ∗ (St W true c (n + 1) n ∗ St W false c (n + 1) n ∗ Ow c (remA true c (n + 1) + remA false c (n + 1)) -∗ Q (accs W x route p c acc n)))
      ⊢ Wp c (hops x route p c n acc) Q
  | 0, _, Q => by
    unfold hops Wp accs
    iintro ⟨#HR, HT, HF, HO, Hk⟩
    iapply (ends_with c acc Q)
    iapply Hk
    isplitl [HT]; · iexact HT
    isplitl [HF] <;> iassumption
  | n + 1, hn, Q => by
    rw [show accs W x route p c acc (n + 1) = acc2 W x route p c (n + 1) (accs W x route p c acc n) from rfl]
    unfold hops Wp
    simp only [wp_bind]
    iintro ⟨#HR, HT, HF, HO, Hk⟩
    iapply (hop_hops acc n (by omega))
    isplitr; · iexact HR
    isplitl [HT]; · iexact HT
    isplitl [HF]; · iexact HF
    isplitl [HO]; · iexact HO
    iintro ⟨HT, HF, HO⟩
    iapply (hop_mid W K x route p c n (by omega))
    isplitr; · iexact HR
    isplitl [HT]; · iexact HT
    isplitl [HF]; · iexact HF
    isplitl [HO]; · iexact HO
    iintro H
    iapply Hk
    iexact H

/-- Hop 15: the right-going transfer alone; the left-going direction has ended. -/
theorem hop_last (acc : FVec F S512x512 .f32) (Q : FVec F S512x512 .f32 → sProp 𝕄) :
    iprop(records W K ∗ St W true c 15 14 ∗ Done W false c 14 ∗ Ow c (remA true c 15 + remB false c 14)
        ∗ (Done W true c 15 ∗ Done W false c 14 ∗ Ow c 0 -∗ Q (acc2 W x route p c 15 acc)))
      ⊢ Wp c (hopLst x route p c acc) Q := by
  rw [remB_last false c 14 (by decide), add_zero]
  unfold hopLst Wp
  simp only [wp_bind]
  iintro ⟨#HR, HT, HF, HO, Hk⟩
  iapply (dir_wait W K (b := true) (c := c) (h := 14) (by decide) (above_remA true c 15))
  isplitr; · iexact HR
  isplitl [HT]; · iexact HT
  isplitl [HO]; · iexact HO
  iintro ⟨HT, HfT, HO⟩
  iapply (dir_send W K (b := true) (c := c) (h := 15) (by decide) (O := 0) (O₀ := remA true c 15) (O₁ := 0) (add_zero _).symm
    (by rw [remB_last true c 15 (by decide), add_zero]))
  isplitr; · iexact HR
  isplitl [HT]; · iexact HT
  isplitl [HfT]; · iexact HfT
  isplitl [HO]; · iexact HO
  iintro ⟨HT, HO⟩
  iapply (dir_load W (b := true) (c := c) (h := 15))
  isplitl [HT]; · iexact HT
  iintro HT
  unfold Done
  icases HF with ⟨HF, HF'⟩
  iapply (dir_load' W (b := false) (c := c) (h := 15))
  isplitl [HF]; · iexact HF
  iintro HF
  iapply (dir_waits W K (b := true) (c := c) (h := 15) (by decide) (Above.zero _))
  isplitr; · iexact HR
  isplitl [HT]; · iexact HT
  isplitl [HO]; · iexact HO
  iintro ⟨HT, HO⟩
  iapply (ends_with c (acc2 W x route p c 15 acc) Q)
  iapply Hk
  isplitl [HT]; · unfold Done; iexact HT
  isplitl [HF HF']
  · isplitl [HF] <;> iassumption
  iexact HO

end Hops

/-- When the hops in direction `b` are over, its semaphores are at zero and both slots are the device's own. -/
theorem dir_end (b : Bool) (c : Dev nD) (h : ℕ) (hh : h + 1 = nh b) :
    iprop(records W K ∗ Done W b c h) ⊢ |={Set.univ}=> iprop((Any b c (sl h) ∗ Any b c (sl (h + 1)))
      ∗ semVal (cell c (.cr b)) 0 ∗ (semVal (cell c (.sd b (sl h))) 0 ∗ semVal (cell c (.sd b (sl (h + 1)))) 0)
      ∗ semVal (cell c (.rv b (sl h))) 0 ∗ semVal (cell c (.rv b (sl (h + 1)))) 0) := by
  have close (k : Kd) (r : ℕ) (hr : ∀ r', r ≤ r' → dutiesK k r' = ∅) :
      iprop(cellInv ER (Rd W) (K (c, k)) (cell c k) ∗ atPos ER (cell c k) r ∅ 0) ⊢ |={Set.univ}=> semVal (cell c k) 0 :=
    Rounds.cell_close ER (Rd W) (Set.mem_univ (K (c, k))) (fun h => h) (fun r' hr' => (duties_cell W c k r').trans (hr r' hr'))
  unfold Done St Cnt
  rw [sl_succ_succ]
  iintro ⟨#HR, ⟨Hs, Hc, H1, H2, H3, H4, -⟩, Ha, -⟩
  imod (close (.cr b) h (fun r hr => if_neg (by omega))) $$ [Hc] with Zc
  · isplitr; · iapply (records_inv W K c (.cr b)); iexact HR
    iexact Hc
  imod (close (.sd b (sl (h + 1))) ((h + 1) / 2) (fun r hr => if_neg (by simp only [sl]; omega))) $$ [H1] with Z1
  · isplitr; · iapply (records_inv W K c (.sd b (sl (h + 1)))); iexact HR
    iexact H1
  imod (close (.sd b (sl h)) ((h + 1 + 1) / 2) (fun r hr => if_neg (by simp only [sl]; omega))) $$ [H2] with Z2
  · isplitr; · iapply (records_inv W K c (.sd b (sl h))); iexact HR
    iexact H2
  imod (close (.rv b (sl h)) ((h + 1) / 2) (fun r hr => if_neg (by simp only [sl]; omega))) $$ [H3] with Z3
  · isplitr; · iapply (records_inv W K c (.rv b (sl h))); iexact HR
    iexact H3
  imod (close (.rv b (sl (h + 1))) ((h + 1 + 1) / 2) (fun r hr => if_neg (by simp only [sl]; omega))) $$ [H4] with Z4
  · isplitr; · iapply (records_inv W K c (.rv b (sl (h + 1)))); iexact HR
    iexact H4
  imodintro
  isplitl [Hs Ha]
  · isplitl [Ha]; · iexact Ha
    iapply (any_of_holds b c (sl (h + 1)) (W (org b (h + 1) c))); iexact Hs
  isplitl [Zc]; · iexact Zc
  isplitl [Z1 Z2]
  · isplitl [Z2] <;> iassumption
  isplitl [Z3] <;> iassumption

end Cert.KernelIdeal.Ring

end
-- ==== Proof.Body.lean ====
/-
# The kernel's run on one device

The barrier, the two stores of the device's own matrices, the sixteen hops and the store of the result, one after the
other; and what the result is, as a function of the device's operands and of every device's matrices.
-/
module

public import proofs.«01_k».proof.Proof.Hop

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A double buffer is its two slots -/

/-- The two slots of a double buffer have no word in common, -/
theorem slots_disjoint (b : Bool) : Disjoint (half b 0).view.set (half b 1).view.set := by
  have h : Disjoint (slot 0).set (slot 1).set := Rect.unit_disjoint (0 : Fin 4) (Or.inl (by decide))
  cases b
  · rw [show (half false 0).view.set = (slot 0).set from View.set_slice_whole _ _, show (half false 1).view.set = (slot 1).set from View.set_slice_whole _ _]; exact h
  · rw [show (half true 0).view.set = (slot 0).set from View.set_slice_whole _ _, show (half true 1).view.set = (slot 1).set from View.set_slice_whole _ _]; exact h

/-- and together they are all of it. -/
theorem slots_all : (slot 0).set ∪ (slot 1).set = Finset.univ := by
  ext i
  simp only [Finset.mem_union, Finset.mem_univ, iff_true, Rect.mem_set_unit]
  have h0 : (i 0).val < 2 := (i 0).isLt
  rcases (show (i 0).val = 0 ∨ (i 0).val = 1 by omega) with e | e
  · left; intro a
    have ha := (i a).isLt
    fin_cases a
    · exact ⟨Nat.zero_le _, by show (i 0).val < 0 + 1; omega⟩
    all_goals exact ⟨Nat.zero_le _, lt_of_lt_of_le ha (Nat.le_add_left _ _)⟩
  · right; intro a
    have ha := (i a).isLt
    fin_cases a
    · exact ⟨by show 1 ≤ (i 0).val; omega, by show (i 0).val < 1 + 1; omega⟩
    all_goals exact ⟨Nat.zero_le _, lt_of_lt_of_le ha (Nat.le_add_left _ _)⟩

/-- The double buffer of direction `b` on device `c`, whatever it holds. -/
def Scr (b : Bool) (c : Dev nD) : sProp 𝕄 :=
  iprop(∃ f : Buf (Elt F) ((c : Thread nD τ).loc (commRef b)), ((c : Thread nD τ).loc (commRef b)) ↦{fullShare} f)

/-- A double buffer is held as its two slots, -/
theorem scr_split (b : Bool) (c : Dev nD) : (Scr b c : sProp 𝕄) ⊢ iprop(Any b c 0 ∗ Any b c 1) := by
  unfold Scr Any
  iintro ⟨%f, H⟩
  cases b
  · ihave H := (pointsTo_union (ℓ := (c : Thread nD τ).loc cc0_scratch1) (q := fullShare) (f := f) (slots_disjoint false)).1 $$ [H]
    · rw [show (half false 0).view.set ∪ (half false 1).view.set = Finset.univ from
        (congrArg₂ _ (View.set_slice_whole _ _) (View.set_slice_whole _ _)).trans slots_all]
      iexact H
    icases H with ⟨H0, H1⟩
    isplitl [H0]
    · iexists f; iexact H0
    · iexists f; iexact H1
  · ihave H := (pointsTo_union (ℓ := (c : Thread nD τ).loc cc0_scratch0) (q := fullShare) (f := f) (slots_disjoint true)).1 $$ [H]
    · rw [show (half true 0).view.set ∪ (half true 1).view.set = Finset.univ from
        (congrArg₂ _ (View.set_slice_whole _ _) (View.set_slice_whole _ _)).trans slots_all]
      iexact H
    icases H with ⟨H0, H1⟩
    isplitl [H0]
    · iexists f; iexact H0
    · iexists f; iexact H1

/-- and two slots make up a double buffer again. -/
theorem scr_join (b : Bool) (c : Dev nD) : iprop(Any b c 0 ∗ Any b c 1) ⊢ (Scr b c : sProp 𝕄) := by
  unfold Scr Any
  iintro ⟨⟨%f, H0⟩, ⟨%g, H1⟩⟩
  cases b
  · ihave H := (pointsTo_join (ℓ := (c : Thread nD τ).loc cc0_scratch1) (q := fullShare) (f := f) (g := g) (slots_disjoint false)) $$ [H0 H1]
    · isplitl [H0] <;> iassumption
    iexists _
    rw [show (half false 0).view.set ∪ (half false 1).view.set = Finset.univ from
        (congrArg₂ _ (View.set_slice_whole _ _) (View.set_slice_whole _ _)).trans slots_all]
    iexact H
  · ihave H := (pointsTo_join (ℓ := (c : Thread nD τ).loc cc0_scratch0) (q := fullShare) (f := f) (g := g) (slots_disjoint true)) $$ [H0 H1]
    · isplitl [H0] <;> iassumption
    iexists _
    rw [show (half true 0).view.set ∪ (half true 1).view.set = Finset.univ from
        (congrArg₂ _ (View.set_slice_whole _ _) (View.set_slice_whole _ _)).trans slots_all]
    iexact H

/-! ## Barrier and stores -/

variable (W : Dev nD → Mats F) (K : Dev nD × Kd → ℕ) (c : Dev nD)

/-- What a device owes at launch: a unit to each neighbour's barrier, and every hop's dues. -/
def O₀ (c : Dev nD) : Tal := ((remA true c 0 + remA false c 0) + tallyAt (cell (src false c) .bar) 0 1) + tallyAt (cell (src true c) .bar) 0 1

/-- The right to pay both neighbours' barriers, and what the device waits with on its own. -/
def BarRes : sProp 𝕄 :=
  iprop(dutyTok ER (cell (src true c) .bar) 0 true ∗ dutyTok ER (cell (src false c) .bar) 0 false
    ∗ cred (tallyAt (cell c .bar) 0 2) ∗ atPos ER (cell c .bar) 0 ∅ 0)

/-- What a device hands its neighbour with the barrier's signal: its slot 1, and that nothing has landed there yet. -/
theorem pay_bar (b : Bool) : payK W (src b c) .bar 0 b = iprop(Any b c 1 ∗ reached ER (cell c (.rv b 1)) 0) := by
  show iprop(Any b (dst b (src b c)) 1 ∗ reached ER (cell (dst b (src b c)) (.rv b 1)) 0) = _
  rw [dst_src]

/-- The barrier: both slots 1 are given away, both neighbours' come. -/
theorem bar_ok (Q : PUnit → sProp 𝕄) :
    iprop(records W K ∗ BarRes c ∗ Any true c 1 ∗ Any false c 1 ∗ Ow c (O₀ c)
        ∗ (Free true c 0 ∗ Free false c 0 ∗ semVal (cell c .bar) 0 ∗ Ow c (remA true c 0 + remA false c 0) -∗ Q ⟨⟩))
      ⊢ Wp c (barB c) Q := by
  have hT := step_signal W K c (src true c) barSem .bar rfl 0 0 true ((remA true c 0 + remA false c 0) + tallyAt (cell (src false c) .bar) 0 1)
    (by decide) rfl
  have hF := step_signal W K c (src false c) barSem .bar rfl 0 0 false (remA true c 0 + remA false c 0) (by decide) rfl
  rw [pay_bar] at hT hF
  have hM := records_mayWait W K c (.reg barSem) 0 (remA true c 0 + remA false c 0) (by decide)
    (by rw [show lv ((c : Thread nD τ), SemLoc.reg barSem) 0 = 1 from lv_cell c .bar 0]; exact ((above_remA true c 0).mono (by decide)).add ((above_remA false c 0).mono (by decide)))
  have hrest : bigSep ((Rd W).duties ((c : Thread nD τ), SemLoc.reg barSem) 0 \ ∅) (fun d => (Rd W).payload ((c : Thread nD τ), SemLoc.reg barSem) 0 d)
      = iprop((Any true (dst true c) 1 ∗ reached ER (cell (dst true c) (.rv true 1)) 0)
        ∗ (Any false (dst false c) 1 ∗ reached ER (cell (dst false c) (.rv false 1)) 0)) := rest_bar W c
  unfold barB O₀ BarRes Wp at *
  simp only [wp_bind]
  iintro ⟨#HR, ⟨HtT, HtF, Hcr, Hat⟩, HaT, HaF, HO, Hk⟩
  iapply hT
  isplitr; · iexact HR
  isplitl [HO]; · iexact HO
  isplitl [HtT]; · iexact HtT
  isplitl [HaT]
  · isplitl [HaT]; · iexact HaT
    iapply (records_reached W K c (.rv true 1)); iexact HR
  isplitr; · iapply (records_reached W K (src true c) .bar); iexact HR
  iintro HO
  iapply hF
  isplitr; · iexact HR
  isplitl [HO]; · iexact HO
  isplitl [HtF]; · iexact HtF
  isplitl [HaF]
  · isplitl [HaF]; · iexact HaF
    iapply (records_reached W K c (.rv false 1)); iexact HR
  isplitr; · iapply (records_reached W K (src false c) .bar); iexact HR
  unfold Ow
  iintro ⟨%V, HO⟩
  iapply (Rounds.wp_wait_rest_token 𝒱₀ ER (Rd W) (c : Thread nD τ) none (κ := K (c, .bar)) (wpE_semWait_eq 𝒱₀ (c : Thread nD τ) none Set.univ) (Set.mem_univ _) 0
      (O := remA true c 0 + remA false c 0) (W := V) (R := 0) (m := 0) (T := ∅)
      ((Nat.zero_add 2).trans (expect_bar W c).symm)) $$ [Hcr HO Hat]
  · isplitr; · iapply (records_inv W K c .bar); iexact HR
    isplitl [Hcr]; · iexact Hcr
    isplitl [HO]; · iexact HO
    isplitr
    · iapply hM; iexact HR
    iexact Hat
  iintro ⟨HO, Hat, -, Hpay⟩
  ihave Hp := (Entails.of_eq hrest) $$ Hpay
  icases Hp with ⟨⟨HaT, HrT⟩, ⟨HaF, HrF⟩⟩
  imod (Rounds.cell_close ER (Rd W) (Set.mem_univ (K (c, .bar))) (fun h => h) (R := 0 + 1)
    (fun r hr => (duties_cell W c .bar r).trans (if_neg (by omega)))) $$ [Hat] with Hz
  · isplitr; · iapply (records_inv W K c .bar); iexact HR
    iexact Hat
  rw [wp_ret]; imodintro
  iapply Hk
  unfold Free
  isplitl [HaT HrT]
  · isplitl [HaT]; · iexact HaT
    isplitl [HrT]; · iexact HrT
    iapply (records_reached W K c (.cr true)); iexact HR
  isplitl [HaF HrF]
  · isplitl [HaF]; · iexact HaF
    isplitl [HrF]; · iexact HrF
    iapply (records_reached W K c (.cr false)); iexact HR
  isplitl [Hz]; · iexact Hz
  iexists _; iexact HO

/-- The store of the device's own matrices into slot 0. -/
theorem put_ok (b : Bool) (v : Vec F S2x256x512 .f32) (Q : PUnit → sProp 𝕄) :
    iprop(Any b c 0 ∗ (Holds b c 0 fullShare (k0_pay9 v) -∗ Q ⟨⟩)) ⊢ Wp c (putB b v) Q := by
  unfold Wp putB loadB Any
  simp only [wp_bind]
  iintro ⟨⟨%f, Hs⟩, Hk⟩
  iapply (wp_load_rect 𝒱₀ (c : Thread nD τ) none Set.univ (m := comm b) (r := slot (sl 0)) (S := (half b 0).view.set) (Finset.Subset.refl _)) $$ Hs
  iintro Hs
  rw [wp_ret]; imodintro
  iapply (wp_store 𝒱₀ (c : Thread nD τ) none Set.univ (m := comm b) (r := slot 0) (Mk := Finset.univ) (S := (half b 0).view.set) (Finset.Subset.refl _)) $$ Hs
  iintro Hs
  rw [wp_ret]; imodintro
  iapply Hk
  iapply (Entails.of_eq ((holds_of b c 0 fullShare _).trans (congrArg (Holds b c 0 fullShare) (View.read_write_univ (v := (half b 0).view) _ _))))
  iexact Hs

/-! ## The whole run -/

/-- The result on device `c`: the shared product, then the contributions of all 32 devices' matrices in the order of the hops. -/
def resultOf (x : Vec F S512x256 .f32) (r : Vec F S256x64 .f32) (t : Vec F S512x1 .i32) (w : Vec F S256x512 .f32) : FVec F S512x512 .f32 :=
  add1 (k0_pay2 x) (k0_pay4 t) (k0_pay6 (k0_pay3 x r) (k0_pay5 t))
    (accs W (k0_pay2 x) (k0_pay4 t) (k0_pay6 (k0_pay3 x r) (k0_pay5 t)) c
      (add1 (k0_pay2 x) (k0_pay4 t) (k0_pay6 (k0_pay3 x r) (k0_pay5 t)) (k0_pay7 (k0_pay2 x) w) (idW c) (W c)) 15)
    (orgR c 16#32) (W (org true 16 c))

/-- A staging buffer holding `X`. -/
abbrev stg (c : Dev nD) (b : Ref sig .tc) (X : b.ty.Contents (Elt F)) : sProp 𝕄 := ((c : Thread nD τ).loc b) ↦{fullShare} X

/-- What the device needs beside the records. -/
def Init : sProp 𝕄 := iprop(BarRes c ∗ Cnt true c 0 0 ∗ Cnt false c 0 0)

/-- What it has at the end: both double buffers and every semaphore at zero. -/
def Zeros : sProp 𝕄 :=
  iprop(semVal (cell c .bar) 0 ∗ semVal (cell c (.cr true)) 0 ∗ semVal (cell c (.cr false)) 0
    ∗ semVal (cell c (.sd true 0)) 0 ∗ semVal (cell c (.sd true 1)) 0 ∗ semVal (cell c (.sd false 0)) 0 ∗ semVal (cell c (.sd false 1)) 0
    ∗ semVal (cell c (.rv true 0)) 0 ∗ semVal (cell c (.rv true 1)) 0 ∗ semVal (cell c (.rv false 0)) 0 ∗ semVal (cell c (.rv false 1)) 0)

/-- Two offsets of zero are zero everywhere; -/
theorem hz2 : (![0, 0] : Fin 2 → ℕ) = fun _ => 0 := funext fun a => by fin_cases a <;> rfl
/-- so are three. -/
theorem hz3 : (![0, 0, 0] : Fin 3 → ℕ) = fun _ => 0 := funext fun a => by fin_cases a <;> rfl

set_option maxHeartbeats 1600000 in
/-- The run of the kernel on device `c`. -/
theorem prog_ok (x : Vec F S512x256 .f32) (r : Vec F S256x64 .f32) (t : Vec F S512x1 .i32) (e : Vec F S2x256x512 .f32) (w : Vec F S256x512 .f32)
    (o : Vec F S512x512 .f32) (hW : W c = k0_pay9 e) (Q : PUnit → sProp 𝕄) :
    iprop(records W K ∗ Init c ∗ Scr true c ∗ Scr false c ∗ Ow c (O₀ c)
        ∗ stg c cc0_stg0_0 x ∗ stg c cc0_stg1_0 r ∗ stg c cc0_stg2_0 t ∗ stg c cc0_stg3_0 e ∗ stg c cc0_stg4_0 w ∗ stg c cc0_stg5_0 o
        ∗ (Zeros c ∗ Scr true c ∗ Scr false c ∗ Ow c 0
            ∗ stg c cc0_stg0_0 x ∗ stg c cc0_stg1_0 r ∗ stg c cc0_stg2_0 t ∗ stg c cc0_stg3_0 e ∗ stg c cc0_stg4_0 w
            ∗ stg c cc0_stg5_0 (resultOf W c x r t w) -∗ Q ⟨⟩))
      ⊢ Wp c (prog (Memref.whole cc0_stg0_0) (Memref.whole cc0_stg1_0) (Memref.whole cc0_stg2_0) (Memref.whole cc0_stg3_0) (Memref.whole cc0_stg4_0) (Memref.whole cc0_stg5_0)) Q := by
  have e0 : (Memref.whole cc0_stg0_0).view.readAt (Elt F) (Rect.unit (s := S512x256) ![0, 0] S512x256.size inb_S512x256_S512x256_0_0).toLoadRect x = x :=
    Memref.readAt_unit_zero (Elt F) cc0_stg0_0 hz2 _ x
  have e1 : (Memref.whole cc0_stg1_0).view.readAt (Elt F) (Rect.unit (s := S256x64) ![0, 0] S256x64.size inb_S256x64_S256x64_0_0).toLoadRect r = r :=
    Memref.readAt_unit_zero (Elt F) cc0_stg1_0 hz2 _ r
  have e2 : (Memref.whole cc0_stg2_0).view.readAt (Elt F) (Rect.unit (s := S512x1) ![0, 0] S512x1.size inb_S512x1_S512x1_0_0).toLoadRect t = t :=
    Memref.readAt_unit_zero (Elt F) cc0_stg2_0 hz2 _ t
  have e4 : (Memref.whole cc0_stg4_0).view.readAt (Elt F) (Rect.unit (s := S256x512) ![0, 0] S256x512.size inb_S256x512_S256x512_0_0).toLoadRect w = w :=
    Memref.readAt_unit_zero (Elt F) cc0_stg4_0 hz2 _ w
  have e3 : (Memref.whole cc0_stg3_0).view.readAt (Elt F) (Rect.unit (s := S2x256x512) ![0, 0, 0] S2x256x512.size inb_S2x256x512_S2x256x512_0_0_0).toLoadRect e = e :=
    Memref.readAt_unit_zero (Elt F) cc0_stg3_0 hz3 _ e
  have e5 : ∀ v, ((Memref.whole cc0_stg5_0).access (Rect.unit (s := S512x512) ![0, 0] S512x512.size inb_S512x512_S512x512_0_0)).write (Elt F) o v Finset.univ = v :=
    fun v => Memref.write_access_unit_zero_univ (Elt F) cc0_stg5_0 hz2 _ o v
  have hpT := put_ok (F := F) c true e
  have hpF := put_ok (F := F) c false e
  rw [← hW] at hpT hpF
  unfold prog Wp at *
  simp only [wp_bind]
  rw [show (Prog.lift .deviceId : Pr F (Dev nD)) = .op .deviceId .ret from rfl, wp_deviceId, wp_ret]
  unfold Init
  iintro ⟨#HR, ⟨Hbar, HcT, HcF⟩, HsT, HsF, HO, H0, H1, H2, H3, H4, H5, Hk⟩
  ihave HsT := (scr_split true c) $$ HsT
  icases HsT with ⟨HsT0, HsT1⟩
  ihave HsF := (scr_split false c) $$ HsF
  icases HsF with ⟨HsF0, HsF1⟩
  imodintro
  iapply (bar_ok W K c)
  isplitr; · iexact HR
  isplitl [Hbar]; · iexact Hbar
  isplitl [HsT1]; · iexact HsT1
  isplitl [HsF1]; · iexact HsF1
  isplitl [HO]; · iexact HO
  iintro ⟨HfT, HfF, Hzb, HO⟩
  iapply (wp_load 𝒱₀ (c : Thread nD τ) none Set.univ (m := Memref.whole cc0_stg0_0) (Finset.subset_univ _)) $$ H0
  iintro H0
  rw [wp_ret]; imodintro
  rw [e0]
  iapply (wp_load 𝒱₀ (c : Thread nD τ) none Set.univ (m := Memref.whole cc0_stg1_0) (Finset.subset_univ _)) $$ H1
  iintro H1
  rw [wp_ret]; imodintro
  rw [e1]
  iapply (wp_load 𝒱₀ (c : Thread nD τ) none Set.univ (m := Memref.whole cc0_stg2_0) (Finset.subset_univ _)) $$ H2
  iintro H2
  rw [wp_ret]; imodintro
  rw [e2]
  iapply (wp_load 𝒱₀ (c : Thread nD τ) none Set.univ (m := Memref.whole cc0_stg4_0) (Finset.subset_univ _)) $$ H4
  iintro H4
  rw [wp_ret]; imodintro
  rw [e4]
  iapply (wp_load 𝒱₀ (c : Thread nD τ) none Set.univ (m := Memref.whole cc0_stg3_0) (Finset.subset_univ _)) $$ H3
  iintro H3
  rw [wp_ret]; imodintro
  rw [e3]
  iapply hpT
  isplitl [HsT0]; · iexact HsT0
  iintro HsT
  iapply hpF
  isplitl [HsF0]; · iexact HsF0
  iintro HsF
  iapply (hop_first W K _ _ _ c _)
  isplitr; · iexact HR
  isplitl [HsT HcT HfT]
  · isplitl [HsT HcT]
    · unfold St
      isplitl [HsT]; · iexact HsT
      iexact HcT
    iexact HfT
  isplitl [HsF HcF HfF]
  · isplitl [HsF HcF]
    · unfold St
      isplitl [HsF]; · iexact HsF
      iexact HcF
    iexact HfF
  isplitl [HO]; · iexact HO
  iintro ⟨HT, HF, HO⟩
  iapply (hop_hops W K _ _ _ c _ 13 (le_refl _))
  isplitr; · iexact HR
  isplitl [HT]; · iexact HT
  isplitl [HF]; · iexact HF
  isplitl [HO]; · iexact HO
  iintro ⟨HT, HF, HO⟩
  iapply (hop_both W K _ _ _ c 13 (by decide) _)
  isplitr; · iexact HR
  isplitl [HT]; · iexact HT
  isplitl [HF]; · iexact HF
  isplitl [HO]; · iexact HO
  iintro ⟨HT, HF, HO⟩
  iapply (hop_last W K _ _ _ c _)
  isplitr; · iexact HR
  isplitl [HT]; · iexact HT
  isplitl [HF]; · iexact HF
  isplitl [HO]; · iexact HO
  iintro ⟨HT, HF, HO⟩
  unfold Done
  icases HT with ⟨HT, HT'⟩
  iapply (dir_load' W (b := true) (c := c) (h := 16) (k := 15))
  isplitl [HT]; · iexact HT
  iintro HT
  iapply (wp_load 𝒱₀ (c : Thread nD τ) none Set.univ (m := Memref.whole cc0_stg5_0) (Finset.subset_univ _)) $$ H5
  iintro H5
  rw [wp_ret]; imodintro
  iapply (wp_store 𝒱₀ (c : Thread nD τ) none Set.univ (m := Memref.whole cc0_stg5_0) (r := Rect.unit (s := S512x512) ![0, 0] S512x512.size inb_S512x512_S512x512_0_0) (Mk := Finset.univ) (Finset.subset_univ _)) $$ H5
  iintro H5
  rw [e5]
  have hdT := dir_end W K true c 15 rfl
  have hdF := dir_end W K false c 14 rfl
  unfold Done at hdT hdF
  imod hdT $$ [HT HT'] with ⟨⟨HaT1, HaT0⟩, ZcT, ⟨ZsT1, ZsT0⟩, ⟨ZvT1, ZvT0⟩⟩
  · isplitr; · iexact HR
    isplitl [HT] <;> iassumption
  imod hdF $$ [HF] with ⟨⟨HaF0, HaF1⟩, ZcF, ⟨ZsF0, ZsF1⟩, ⟨ZvF0, ZvF1⟩⟩
  · isplitr; · iexact HR
    iexact HF
  rw [wp_ret]; imodintro
  iapply Hk
  isplitl [Hzb ZcT ZsT1 ZsT0 ZvT1 ZvT0 ZcF ZsF0 ZsF1 ZvF0 ZvF1]
  · unfold Zeros
    isplitl [Hzb]; · iexact Hzb
    isplitl [ZcT]; · iexact ZcT
    isplitl [ZcF]; · iexact ZcF
    isplitl [ZsT0]; · iexact ZsT0
    isplitl [ZsT1]; · iexact ZsT1
    isplitl [ZsF0]; · iexact ZsF0
    isplitl [ZsF1]; · iexact ZsF1
    isplitl [ZvT0]; · iexact ZvT0
    isplitl [ZvT1]; · iexact ZvT1
    isplitl [ZvF0]; · iexact ZvF0
    iexact ZvF1
  isplitl [HaT0 HaT1]
  · iapply (scr_join true c)
    isplitl [HaT0]; · iexact HaT0
    iexact HaT1
  isplitl [HaF0 HaF1]
  · iapply (scr_join false c)
    isplitl [HaF0]; · iexact HaF0
    iexact HaF1
  isplitl [HO]; · iexact HO
  isplitl [H0]; · iexact H0
  isplitl [H1]; · iexact H1
  isplitl [H2]; · iexact H2
  isplitl [H3]; · iexact H3
  isplitl [H4]; · iexact H4
  iexact H5

end Cert.KernelIdeal.Ring

end
-- ==== Proof.Deal.lean ====
/-
# What every device starts with

The rights to pay on a device's own semaphores are dealt around the ring to the devices that pay there; what the
devices owe one another at the start is what each of them may wait for.
-/
module

public import proofs.«01_k».proof.Proof.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The payments, numbered -/

/-- The four kinds of payments in a direction: a transfer's two, the credit and the barrier's. -/
abbrev Pay : Type := Bool × Fin 4

/-- The semaphore, the round and the name of payment `j` of a kind. -/
def payKd (p : Pay) (j : ℕ) : Kd × ℕ × Bool :=
  match p with
  | (b, 0) => (.sd b (sl j), j / 2, false)
  | (b, 1) => (.rv b (sl (j + 1)), j / 2, false)
  | (b, 2) => (.cr b, j, false)
  | (b, _) => (.bar, j, b)

/-- No two payments of a device have the same semaphore, round and name. -/
theorem payKd_injective : Function.Injective fun p : Pay × Fin 16 => payKd p.1 p.2.val := by decide +kernel

/-- The device whose semaphore a payment of device `c` goes to. -/
def payTo (p : Pay) : Equiv.Perm (Dev nD) :=
  match p with
  | (_, 0) => Equiv.refl _
  | (b, 1) => ⟨dst b, src b, src_dst b, dst_src b⟩
  | (b, _) => ⟨src b, dst b, dst_src b, src_dst b⟩

/-- The right to make payment `j` of a kind on device `c`'s semaphore. -/
def right (p : Pay) (c : Dev nD) (j : ℕ) : sProp 𝕄 := dutyTok ER (cell c (payKd p j).1) (payKd p j).2.1 (payKd p j).2.2

/-- Every right to pay on device `c`'s semaphores. -/
def minted (c : Dev nD) : sProp 𝕄 := bigSep Finset.univ fun p : Pay => bigSep Finset.univ fun j : Fin 16 => right p c j.val
/-- Every right device `c` has to pay. -/
def dealt (c : Dev nD) : sProp 𝕄 := bigSep Finset.univ fun p : Pay => bigSep Finset.univ fun j : Fin 16 => right p (payTo p c) j.val

/-- Two iterated conjunctions commute. -/
theorem bigSep_swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun x : I × J => Φ x.1 x.2), ← bigSep_univ_prod (fun x : J × I => Φ x.2 x.1)]
  exact bigSep_univ_equiv (Equiv.prodComm J I) _

/-- Minted at the semaphores, the rights are dealt to the devices that use them. -/
theorem deal : (bigSep Finset.univ fun c : Dev nD => (minted c : sProp 𝕄)) = bigSep Finset.univ fun c : Dev nD => dealt c := by
  unfold minted dealt
  rw [bigSep_swap, bigSep_swap (I := Dev nD)]
  exact bigSep_congr fun p _ => bigSep_univ_equiv (payTo p) (fun c => bigSep Finset.univ fun j : Fin 16 => (right p c j.val : sProp 𝕄))

/-- A conjunction over sixteen is one over the numbers below sixteen; -/
theorem bigSep_fin16 (Φ : ℕ → sProp 𝕄) : (bigSep Finset.univ fun j : Fin 16 => Φ j.val) = bigSep (Finset.Ico 0 16) Φ := by
  rw [show Finset.Ico 0 16 = (Finset.univ : Finset (Fin 16)).map Fin.valEmbedding from by decide, bigSep_map]; rfl

/-- one over four has four parts; -/
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
/-- one over the two directions has two. -/
theorem bigSep_bool (Φ : Bool → sProp 𝕄) : bigSep Finset.univ Φ = iprop(Φ true ∗ Φ false) := bigSep_univ_eq_bigSepL [true, false] (by decide) (by decide) Φ

/-- The rights of one direction, as the device uses them. -/
theorem dealt_dir (b : Bool) (c : Dev nD) :
    (bigSep Finset.univ fun q : Fin 4 => bigSep Finset.univ fun j : Fin 16 => (right (b, q) (payTo (b, q) c) j.val : sProp 𝕄))
      ⊢ iprop(bigSep (Finset.Ico 0 16) (tok b c) ∗ dutyTok ER (cell (src b c) .bar) 0 b) := by
  have hb : bigSep (Finset.Ico 0 16) (fun j => (right (b, 3) (src b c) j : sProp 𝕄)) ⊢ dutyTok ER (cell (src b c) .bar) 0 b :=
    bigSep_elim (Finset.mem_Ico.mpr ⟨Nat.le_refl 0, by decide⟩)
  rw [bigSep_fin4, bigSep_fin16 (fun j => right (b, 0) (payTo (b, 0) c) j), bigSep_fin16 (fun j => right (b, 1) (payTo (b, 1) c) j),
    bigSep_fin16 (fun j => right (b, 2) (payTo (b, 2) c) j), bigSep_fin16 (fun j => right (b, 3) (payTo (b, 3) c) j)]
  rw [show bigSep (Finset.Ico 0 16) (tok b c) = iprop(bigSep (Finset.Ico 0 16) (fun j => (right (b, 0) (payTo (b, 0) c) j : sProp 𝕄))
      ∗ bigSep (Finset.Ico 0 16) (fun j => (right (b, 1) (payTo (b, 1) c) j : sProp 𝕄)) ∗ bigSep (Finset.Ico 0 16) (fun j => (right (b, 2) (payTo (b, 2) c) j : sProp 𝕄))) from by
    rw [← bigSep_sep', ← bigSep_sep']; rfl]
  iintro ⟨H0, H1, H2, H3⟩
  isplitr [H3]
  · isplitl [H0]; · iexact H0
    isplitl [H1]; · iexact H1
    iexact H2
  · iapply hb; iexact H3

/-- The rights dealt to a device, direction by direction. -/
theorem dealt_split (c : Dev nD) :
    (dealt c : sProp 𝕄) ⊢ iprop((bigSep (Finset.Ico 0 16) (tok true c) ∗ dutyTok ER (cell (src true c) .bar) 0 true)
      ∗ (bigSep (Finset.Ico 0 16) (tok false c) ∗ dutyTok ER (cell (src false c) .bar) 0 false)) := by
  unfold dealt
  rw [bigSep_univ_prod, bigSep_bool]
  exact BIClass.sep_mono (dealt_dir true c) (dealt_dir false c)

/-! ## What is owed to a device -/

/-- Every device owing its neighbour an amount, every device is owed it. -/
theorem owed_dst (b : Bool) (k : Kd) (i n : ℕ) (c : Dev nD) :
    (Pipeline.launchCred (fun d => (tallyAt (cell (dst b d) k) i n : Tal)) c : sProp 𝕄) ⊢ cred (tallyAt (cell c k) i n) :=
  Pipeline.launchCred_tallyAt (loc k) (dst b) (src b) (dst_src b) (src_dst b) i n c
/-- The same, of the neighbour on the other side. -/
theorem owed_src (b : Bool) (k : Kd) (i n : ℕ) (c : Dev nD) :
    (Pipeline.launchCred (fun d => (tallyAt (cell (src b d) k) i n : Tal)) c : sProp 𝕄) ⊢ cred (tallyAt (cell c k) i n) :=
  Pipeline.launchCred_tallyAt (loc k) (src b) (dst b) (src_dst b) (dst_src b) i n c

/-- What the neighbours owe a device in one direction: every landing and every credit. -/
theorem owed_dir (b : Bool) (c : Dev nD) :
    (Pipeline.launchCred (fun d => remA b d 0) c : sProp 𝕄) ⊢ iprop(bigSep (Finset.Ico 0 16) (crdV b c) ∗ bigSep (Finset.Ico 0 16) (crdC b c)) := by
  unfold remA
  rw [Pipeline.launchCred_sum (Finset.Ico 0 16) (fun j d => oweC b d j + oweX b d j) c, ← bigSep_sep']
  refine bigSep_mono fun j _ => ?_
  show _ ⊢ (_ : sProp 𝕄)
  rw [Pipeline.launchCred_add (fun d => oweC b d j) (fun d => oweX b d j) c]
  iintro ⟨HC, HX⟩
  isplitl [HX]
  · unfold crdV; iapply (owed_dst (F := F) b (.rv b (sl (j + 1))) j (if j < nh b then N else 0) c); iexact HX
  · unfold crdC; iapply (owed_src (F := F) b (.cr b) j (if j + 1 < nh b then 1 else 0) c); iexact HC

/-- What a device may wait for at the start. -/
theorem owed_all (c : Dev nD) :
    (Pipeline.launchCred O₀ c : sProp 𝕄) ⊢ iprop(cred (tallyAt (cell c .bar) 0 2)
      ∗ (bigSep (Finset.Ico 0 16) (crdV true c) ∗ bigSep (Finset.Ico 0 16) (crdC true c))
      ∗ (bigSep (Finset.Ico 0 16) (crdV false c) ∗ bigSep (Finset.Ico 0 16) (crdC false c))) := by
  rw [show (O₀ : Dev nD → Tal) = fun d => (fun d => (fun d => (fun d => remA true d 0) d + (fun d => remA false d 0) d) d
      + (fun d => (tallyAt (cell (src false d) .bar) 0 1 : Tal)) d) d + (fun d => (tallyAt (cell (src true d) .bar) 0 1 : Tal)) d from rfl,
    Pipeline.launchCred_add, Pipeline.launchCred_add, Pipeline.launchCred_add]
  iintro ⟨⟨⟨HT, HF⟩, HB⟩, HB'⟩
  ihave HB := (owed_src (F := F) false .bar 0 1 c) $$ HB
  ihave HB' := (owed_src (F := F) true .bar 0 1 c) $$ HB'
  isplitl [HB HB']
  · rw [show (tallyAt (cell c .bar) 0 2 : Tal) = tallyAt (cell c .bar) 0 1 + tallyAt (cell c .bar) 0 1 from (tallyAt_add (cell c .bar) 0 1 1).symm]
    iapply (cred_add _ _).2
    isplitl [HB] <;> iassumption
  isplitl [HT]
  · iapply (owed_dir (F := F) true c); iexact HT
  · iapply (owed_dir (F := F) false c); iexact HF

/-! ## The semaphores that belong to the kernel, and the barrier -/

/-- The kinds of the kernel's own semaphores. -/
def ownKd : Fin 10 → Kd
  | 0 => .cr true | 1 => .cr false | 2 => .sd true 0 | 3 => .sd true 1 | 4 => .sd false 0 | 5 => .sd false 1
  | 6 => .rv true 0 | 7 => .rv true 1 | 8 => .rv false 0 | 9 => .rv false 1

/-- The kernel's own semaphores. -/
abbrev osem (k : Fin 10) : SemLoc sig := loc (ownKd k)

/-- They are the ones the call's scratch declares, each once. -/
theorem ownSemFacts : Pipeline.OwnSemFacts cfg0.spec osem := by decide +kernel

/-- A conjunction over the kinds of semaphores, part by part. -/
theorem bigSep_kd (Φ : Kd → sProp 𝕄) : bigSep Finset.univ Φ
    = iprop(Φ .bar ∗ Φ (.cr true) ∗ Φ (.cr false) ∗ Φ (.sd true 0) ∗ Φ (.sd true 1) ∗ Φ (.sd false 0) ∗ Φ (.sd false 1)
      ∗ Φ (.rv true 0) ∗ Φ (.rv true 1) ∗ Φ (.rv false 0) ∗ Φ (.rv false 1)) :=
  bigSep_univ_eq_bigSepL Kd.all rfl (by decide) Φ

/-- The kernel's own semaphores at zero, one by one. -/
theorem ownSems0_eq (c : Dev nD) : (Pipeline.ownSems0 (Ix := ℕ) (Name := ℕ) (U := UU) (Lvl := ℕ) (Val := Elt F) (τ := τ) osem c : sProp 𝕄)
    = iprop(semVal (cell c (.cr true)) 0 ∗ semVal (cell c (.cr false)) 0
      ∗ semVal (cell c (.sd true 0)) 0 ∗ semVal (cell c (.sd true 1)) 0 ∗ semVal (cell c (.sd false 0)) 0 ∗ semVal (cell c (.sd false 1)) 0
      ∗ semVal (cell c (.rv true 0)) 0 ∗ semVal (cell c (.rv true 1)) 0 ∗ semVal (cell c (.rv false 0)) 0 ∗ semVal (cell c (.rv false 1)) 0) := by
  rw [Pipeline.ownSems0_eq_of_list c osem [0, 1, 2, 3, 4, 5, 6, 7, 8, 9] (by decide) (by decide)]; rfl

/-- The one other semaphore is the barrier. -/
theorem unscopedSems0_eq (c : Dev nD) : (unscopedSems0 c : sProp 𝕄) = semVal (cell c .bar) 0 := by
  unfold unscopedSems0; rw [bigSep_eq_bigSepL_of_eq [SemLoc.reg barSem] (by decide) (by decide)]; rfl

/-- At zero, they are `Zeros`. -/
theorem zeros_split (c : Dev nD) : (Zeros c : sProp 𝕄) = iprop(unscopedSems0 c ∗ Pipeline.ownSems0 osem c) := by
  rw [ownSems0_eq, unscopedSems0_eq]; rfl
/-- `Zeros` is every kind of semaphore at zero. -/
theorem zeros_all (c : Dev nD) : (Zeros c : sProp 𝕄) = bigSep Finset.univ fun k : Kd => semVal (cell c k) 0 := by
  rw [bigSep_kd]; rfl

end Cert.KernelIdeal.Ring

end
-- ==== Proof.Launch.lean ====
/-
# The kernel's run on all devices

From any memory, with every semaphore at zero, the thirty-two devices' kernels end; then each operand holds what it
held, each result array what `resultOf` says of the operands, and every semaphore is at zero.
-/
module

public import proofs.«01_k».proof.Proof.Deal
public import proofs.«01_k».proof.Proof.Gen.KernelIdeal.Points
public import Idealize.ShloMosaic.Lib.Pipeline.CollectiveSegs
public import Idealize.ShloMosaic.Lib.Memref

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The state the devices start from. -/
def s₀ : MemSt nD τ sig (Elt F) := ⟨m, fun _ => 0, ρ⟩

/-! ## The operands and the result of one device -/

/-- The tokens of device `c`, as the kernel finds them staged. -/
def xS (c : Dev nD) : Vec F S512x256 .f32 := (win0_0.blk (0 : Fin 1)).view.read (Elt F) ((s₀ m ρ).mem ((c : Thread nD τ).loc main_arg0))
/-- The router's weights. -/
def rS (c : Dev nD) : Vec F S256x64 .f32 := (win0_1.blk (0 : Fin 1)).view.read (Elt F) ((s₀ m ρ).mem ((c : Thread nD τ).loc main_arg1))
/-- The routes. -/
def tS (c : Dev nD) : Vec F S512x1 .i32 := (win0_2.blk (0 : Fin 1)).view.read (Elt F) ((s₀ m ρ).mem ((c : Thread nD τ).loc main_arg2))
/-- The two experts' matrices. -/
def eS (c : Dev nD) : Vec F S2x256x512 .f32 := (win0_3.blk (0 : Fin 1)).view.read (Elt F) ((s₀ m ρ).mem ((c : Thread nD τ).loc main_arg3))
/-- The shared expert's matrix. -/
def wS (c : Dev nD) : Vec F S256x512 .f32 := (win0_4.blk (0 : Fin 1)).view.read (Elt F) ((s₀ m ρ).mem ((c : Thread nD τ).loc main_arg4))

/-- The two matrices of device `c`, as it sends them. -/
def Wm (c : Dev nD) : Mats F := k0_pay9 (eS m ρ c)

/-- The block of the result device `c` computes. -/
def outS (c : Dev nD) : Vec F S512x512 .f32 := resultOf (Wm m ρ) c (xS m ρ c) (rS m ρ c) (tS m ρ c) (wS m ρ c)

/-! ## The proof data of the one call -/

/-- What a device knows and may do before the call's body. -/
def start (c : Dev nD) : sProp 𝕄 := iprop((∃ K, records (Wm m ρ) K) ∗ Init c)
/-- What a device holds beside the staging before the call's body, -/
def Φ₀ (c : Dev nD) : sProp 𝕄 := iprop(start m ρ c ∗ Scr true c ∗ Scr false c)
/-- and after it. -/
def Φ₁ (c : Dev nD) : sProp 𝕄 := iprop(Zeros c ∗ Scr true c ∗ Scr false c)

/-- The arrays, what the staging buffers hold after the body, what is held beside them and what is owed. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xS m ρ c
    | ⟨1, _⟩ => rS m ρ c
    | ⟨2, _⟩ => tS m ρ c
    | ⟨3, _⟩ => eS m ρ c
    | ⟨4, _⟩ => wS m ρ c
    | ⟨5, _⟩ => outS m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A whole staging buffer holding `X`. -/
abbrev own (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A staging buffer with contents `X` holds `X`, -/
theorem own_of (c : Dev nD) (b : Ref sig .tc) (X : b.ty.Contents (Elt F)) : (stg c b X : sProp 𝕄) ⊢ own c b X := by
  iintro H; iexists X; isplitr
  · ipureintro; rfl
  · iexact H
/-- and the other way round. -/
theorem of_own (c : Dev nD) (b : Ref sig .tc) (X : b.ty.Contents (Elt F)) : (own c b X : sProp 𝕄) ⊢ stg c b X := by
  iintro ⟨%f, %hf, H⟩; subst hf; iexact H

section Body

/-- The only point of the call's grid. -/
abbrev pt : Fin cfg0.N := t0_0

set_option maxRecDepth 4000 in
/-- What the body starts from, -/
def bodyPre (c : Dev nD) : sProp 𝕄 :=
  iprop(Φ₀ m ρ c ∗ (dats m ρ 0 c).owesAt (0 : ℕ) pt.castSucc
    ∗ (∃ d, own c cc0_stg0_0 ((dats m ρ 0 c).before (0 : Fin 6) pt d)) ∗ (∃ d, own c cc0_stg1_0 ((dats m ρ 0 c).before (1 : Fin 6) pt d))
    ∗ (∃ d, own c cc0_stg2_0 ((dats m ρ 0 c).before (2 : Fin 6) pt d)) ∗ (∃ d, own c cc0_stg3_0 ((dats m ρ 0 c).before (3 : Fin 6) pt d))
    ∗ (∃ d, own c cc0_stg4_0 ((dats m ρ 0 c).before (4 : Fin 6) pt d)) ∗ (∃ d, own c cc0_stg5_0 ((dats m ρ 0 c).before (5 : Fin 6) pt d)))

/-- and what it leaves. -/
def bodyPost (c : Dev nD) : sProp 𝕄 :=
  iprop(Φ₁ c ∗ (dats m ρ 0 c).owesAt (0 : ℕ) pt.succ ∗ own c cc0_stg0_0 (xS m ρ c) ∗ own c cc0_stg1_0 (rS m ρ c)
    ∗ own c cc0_stg2_0 (tS m ρ c) ∗ own c cc0_stg3_0 (eS m ρ c) ∗ own c cc0_stg4_0 (wS m ρ c) ∗ own c cc0_stg5_0 (outS m ρ c))

/-- Each operand is staged as it lies in memory. -/
theorem before0 (c : Dev nD) (d) : (dats (F := F) m ρ 0 c).before (0 : Fin 6) pt d = xS m ρ c := by
  unfold Dat.before; rw [if_pos (fetch0_0 pt)]; rfl
/-- So are the router's weights, -/
theorem before1 (c : Dev nD) (d) : (dats (F := F) m ρ 0 c).before (1 : Fin 6) pt d = rS m ρ c := by
  unfold Dat.before; rw [if_pos (fetch0_1 pt)]; rfl
/-- the routes, -/
theorem before2 (c : Dev nD) (d) : (dats (F := F) m ρ 0 c).before (2 : Fin 6) pt d = tS m ρ c := by
  unfold Dat.before; rw [if_pos (fetch0_2 pt)]; rfl
/-- the experts' matrices -/
theorem before3 (c : Dev nD) (d) : (dats (F := F) m ρ 0 c).before (3 : Fin 6) pt d = eS m ρ c := by
  unfold Dat.before; rw [if_pos (fetch0_3 pt)]; rfl
/-- and the shared expert's matrix. -/
theorem before4 (c : Dev nD) (d) : (dats (F := F) m ρ 0 c).before (4 : Fin 6) pt d = wS m ρ c := by
  unfold Dat.before; rw [if_pos (fetch0_4 pt)]; rfl

set_option maxHeartbeats 800000 in
/-- The body runs from the one to the other. -/
theorem body_run (c : Dev nD) : bodyPre m ρ c ⊢ Wp c (bodyAt0 (F := F) pt) fun _ => bodyPost m ρ c := by
  have hb : bodyAt0 (F := F) pt = prog (Memref.whole cc0_stg0_0) (Memref.whole cc0_stg1_0) (Memref.whole cc0_stg2_0) (Memref.whole cc0_stg3_0) (Memref.whole cc0_stg4_0) (Memref.whole cc0_stg5_0) :=
    body_eq pt
  rw [hb]
  unfold bodyPre bodyPost Φ₀ Φ₁ start Dat.owesAt Pipeline.owesWithin
  simp only [before0, before1, before2, before3, before4]
  rw [show (dats m ρ 0 c).owed pt.castSucc = O₀ c from rfl, show (dats m ρ 0 c).owed pt.succ = 0 from rfl]
  iintro ⟨⟨⟨⟨%K, #HR⟩, HI⟩, HT, HF⟩, ⟨%V, %hV, HO⟩, ⟨%_d0, H0⟩, ⟨%_d1, H1⟩, ⟨%_d2, H2⟩, ⟨%_d3, H3⟩, ⟨%_d4, H4⟩, ⟨%_d5, H5⟩⟩
  ihave H0 := (of_own c cc0_stg0_0 (xS m ρ c)) $$ H0
  ihave H1 := (of_own c cc0_stg1_0 (rS m ρ c)) $$ H1
  ihave H2 := (of_own c cc0_stg2_0 (tS m ρ c)) $$ H2
  ihave H3 := (of_own c cc0_stg3_0 (eS m ρ c)) $$ H3
  ihave H4 := (of_own c cc0_stg4_0 (wS m ρ c)) $$ H4
  icases H5 with ⟨%o, %_ho, H5⟩
  iapply (prog_ok (Wm m ρ) K c (xS m ρ c) (rS m ρ c) (tS m ρ c) (eS m ρ c) (wS m ρ c) o rfl)
  isplitr; · iexact HR
  isplitl [HI]; · iexact HI
  isplitl [HT]; · iexact HT
  isplitl [HF]; · iexact HF
  isplitl [HO]; · unfold Ow; iexists V; iexact HO
  isplitl [H0]; · iexact H0
  isplitl [H1]; · iexact H1
  isplitl [H2]; · iexact H2
  isplitl [H3]; · iexact H3
  isplitl [H4]; · iexact H4
  isplitl [H5]; · iexact H5
  unfold Ow
  iintro ⟨HZ, HT, HF, ⟨%V', HO⟩, H0, H1, H2, H3, H4, H5⟩
  isplitl [HZ HT HF]
  · isplitl [HZ]; · iexact HZ
    isplitl [HT] <;> iassumption
  isplitl [HO]
  · iexists V'; isplitr
    · ipureintro; exact fun _ _ => Or.inl trivial
    · iexact HO
  isplitl [H0]; · iapply (own_of c cc0_stg0_0 (xS m ρ c)); iexact H0
  isplitl [H1]; · iapply (own_of c cc0_stg1_0 (rS m ρ c)); iexact H1
  isplitl [H2]; · iapply (own_of c cc0_stg2_0 (tS m ρ c)); iexact H2
  isplitl [H3]; · iapply (own_of c cc0_stg3_0 (eS m ρ c)); iexact H3
  isplitl [H4]; · iapply (own_of c cc0_stg4_0 (wS m ρ c)); iexact H4
  unfold outS
  iapply (own_of c cc0_stg5_0 (resultOf (Wm m ρ) c (xS m ρ c) (rS m ρ c) (tS m ρ c) (wS m ρ c))); iexact H5

/-- A conjunction over the six windows, part by part. -/
theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 40000 in
/-- The body meets what the call's staging asks of it. -/
theorem body_obligation (c : Dev nD) : BodyObligation (dats (F := F) m ρ 0 c) (defs₀ (F := F)) 𝒱₀ (0 : ℕ) Set.univ := fun t => by
  rw [fin_N0 t]
  rw [bigSep_W, bigSep_W]
  simp only [owns_whole_eq]
  exact body_run m ρ c

end Body

/-! ## The launch -/

/-- Every array is held whole. -/
theorem share_eq (c : Dev nD) (w : Fin cfg0.W) : (dats m ρ 0 c).share w = fullShare := by unfold Dat.share; split <;> rfl

/-- The semaphore of a kind on a device. -/
abbrev kcell (ck : Dev nD × Kd) : GSem nD τ sig := cell ck.1 ck.2

/-- No two of them are the same. -/
theorem kcell_injective : Function.Injective kcell := by
  rintro ⟨c, k⟩ ⟨c', k'⟩ h
  have h1 : c = c' := congrArg (fun g : GSem nD τ sig => g.1.1) h
  have h2 : k = k' := loc_injective (congrArg Prod.snd h)
  rw [h1, h2]

/-- The semaphores the schedule is about. -/
def ringCells : Finset (GSem nD τ sig) := Finset.univ.map ⟨kcell, kcell_injective⟩

/-- The rights to pay, as tokens. -/
abbrev tokOf (x : Dev nD × (Pay × Fin 16)) : GSem nD τ sig × ℕ × Bool :=
  (cell x.1 (payKd x.2.1 x.2.2.val).1, (payKd x.2.1 x.2.2.val).2.1, (payKd x.2.1 x.2.2.val).2.2)

/-- No two of them are the same. -/
theorem tokOf_injective : Function.Injective tokOf := by
  rintro ⟨c, p⟩ ⟨c', p'⟩ h
  have h1 : c = c' := congrArg (fun g : GSem nD τ sig × ℕ × Bool => g.1.1.1) h
  have h2 : (payKd p.1 p.2.val).1 = (payKd p'.1 p'.2.val).1 := loc_injective (congrArg (fun g : GSem nD τ sig × ℕ × Bool => g.1.2) h)
  have h3 : (payKd p.1 p.2.val).2 = (payKd p'.1 p'.2.val).2 := congrArg (fun g : GSem nD τ sig × ℕ × Bool => g.2) h
  have h4 : p = p' := payKd_injective (Prod.ext h2 h3)
  rw [h1, h4]

/-- The tokens the schedule starts with. -/
def ringToks : Finset (GSem nD τ sig × ℕ × Bool) := Finset.univ.map ⟨tokOf, tokOf_injective⟩

/-- The schedule's state at the start, with the staging's beside it. -/
def u₀ : UU := (initOf (Pipeline.cells cfgs cellOf_inj) (Pipeline.launchToks cfgs cellOf_inj), initOf ringCells ringToks)

/-- What the start of the schedule gives device `c`. -/
def G (c : Dev nD) : sProp 𝕄 :=
  iprop((bigSep Finset.univ fun k : Kd => roundState ER (Rd (Wm m ρ)) (kcell (c, k)) 0)
    ∗ (bigSep Finset.univ fun k : Kd => iprop(atPos ER (kcell (c, k)) 0 ∅ 0 ∗ reached ER (kcell (c, k)) 0)) ∗ minted c)

/-- The first two of the records. -/
def agreed (K : Dev nD × Kd → ℕ) : sProp 𝕄 :=
  iprop((bigSep Finset.univ fun ck : Dev nD × Kd => cellInv ER (Rd (Wm m ρ)) (K ck) (kcell ck)) ∗ (bigSep Finset.univ fun ck : Dev nD × Kd => reached ER (kcell ck) 0))
instance agreed_persistent (K : Dev nD × Kd → ℕ) : BI.Persistent (agreed m ρ K) := by unfold agreed; infer_instance

/-- The positions on a device's own semaphores, and the rights to pay elsewhere. -/
def linear (c : Dev nD) : sProp 𝕄 := iprop((bigSep Finset.univ fun k : Kd => atPos ER (kcell (c, k)) 0 ∅ 0) ∗ dealt c)

/-- What device `c` has once every semaphore follows the schedule. -/
def G' (c : Dev nD) : sProp 𝕄 := iprop(∃ K, agreed m ρ K ∗ linear c)

/-- The schedule's start gives every device its part. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Kd => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [bigSep_map, bigSep_univ_prod]
    exact bigSep_congr fun c _ => by unfold minted; rw [bigSep_univ_prod]; rfl
  iintro HX
  imod (Rounds.fund ER (Rd (Wm m ρ)) ringCells ringToks) $$ HX with ⟨Hst, Hr, Hat, Htok⟩
  imodintro
  ihave Hst' := (Entails.of_eq (hX fun g => roundState ER (Rd (Wm m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device puts its semaphores, all at zero, under the schedule. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (Wm m ρ)) κ (kcell (c, k))))
          ∗ (bigSep Finset.univ fun k => iprop(atPos ER (kcell (c, k)) 0 ∅ 0 ∗ reached ER (kcell (c, k)) 0)) ∗ minted c) := by
  unfold G
  iintro ⟨Hos, Hus, Hst, Hat, Htok⟩
  ihave Hv := (Entails.of_eq ((zeros_split (F := F) c).symm.trans (zeros_all c))) $$ [Hos Hus]
  · isplitl [Hus] <;> iassumption
  imod (show iprop((bigSep Finset.univ fun k : Kd => semVal (kcell (c, k)) 0) ∗ bigSep Finset.univ fun k : Kd => roundState ER (Rd (Wm m ρ)) (kcell (c, k)) 0)
      ⊢ (|={Set.univ}=> bigSep Finset.univ fun k => iprop(∃ κ : ℕ, cellInv ER (Rd (Wm m ρ)) κ (kcell (c, k))) : sProp 𝕄) from by
        rw [← bigSep_sep']
        exact (bigSep_mono fun k _ => (Rounds.body_intro ER (Rd (Wm m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device then knows is common, and the rights to pay are dealt. -/
theorem regroup :
    (bigSep Finset.univ fun c : Dev nD => iprop((bigSep Finset.univ fun k => iprop(∃ κ : ℕ, cellInv ER (Rd (Wm m ρ)) κ (kcell (c, k))))
          ∗ (bigSep Finset.univ fun k => iprop(atPos ER (kcell (c, k)) 0 ∅ 0 ∗ reached ER (kcell (c, k)) 0)) ∗ minted c) : sProp 𝕄)
      ⊢ bigSep Finset.univ (G' m ρ) := by
  rw [bigSep_sep', bigSep_sep', ← bigSep_univ_prod (fun ck : Dev nD × Kd => iprop(∃ κ : ℕ, cellInv ER (Rd (Wm m ρ)) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄)), deal]
  iintro ⟨HI, ⟨Hat, #HR⟩, Htok⟩
  ihave HK := (BI.bigSep_exists_pi Finset.univ (fun (ck : Dev nD × Kd) (κ : ℕ) => (cellInv ER (Rd (Wm m ρ)) κ (kcell ck) : sProp 𝕄))) $$ HI
  icases HK with ⟨%K, #HI⟩
  have hG (c : Dev nD) : iprop(agreed m ρ K ∗ linear c) ⊢ (G' m ρ c : sProp 𝕄) := by
    unfold G'; iintro ⟨HA, HL⟩; iexists K
    isplitl [HA] <;> iassumption
  iapply (BI.bigSep_with_persistent (R := agreed m ρ K) fun c _ => hG c)
  isplitr
  · unfold agreed; isplitl; · iexact HI
    iexact HR
  · unfold linear; rw [bigSep_sep']
    isplitl [Hat]; · iexact Hat
    iexact Htok

/-- All devices together get from the start to that. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- The positions, the rights and the credits of a device make up what it starts from. -/
theorem init_intro (K : Dev nD × Kd → ℕ) (c : Dev nD) :
    iprop(records (Wm m ρ) K ∗ linear c ∗ Pipeline.launchCred O₀ c) ⊢ (Init c : sProp 𝕄) := by
  unfold linear
  rw [bigSep_kd]
  iintro ⟨#HR, ⟨⟨aB, aCT, aCF, aST0, aST1, aSF0, aSF1, aVT0, aVT1, aVF0, aVF1⟩, HD⟩, HC⟩
  ihave HD := (dealt_split (F := F) c) $$ HD
  icases HD with ⟨⟨tT, bT⟩, ⟨tF, bF⟩⟩
  ihave HC := (owed_all (F := F) c) $$ HC
  icases HC with ⟨cB, ⟨vT, kT⟩, ⟨vF, kF⟩⟩
  unfold Init BarRes Cnt
  isplitl [bT bF cB aB]
  · isplitl [bT]; · iexact bT
    isplitl [bF]; · iexact bF
    isplitl [cB] <;> iassumption
  isplitl [aCT aST0 aST1 aVT0 aVT1 tT vT kT]
  · isplitl [aCT]; · iexact aCT
    isplitl [aST0]; · iexact aST0
    isplitl [aST1]; · iexact aST1
    isplitl [aVT1]; · iexact aVT1
    isplitl [aVT0]; · iexact aVT0
    isplitr; · iapply (records_reached (Wm m ρ) K c (.sd true 0)); iexact HR
    isplitr; · iapply (records_reached (Wm m ρ) K c (.sd true 1)); iexact HR
    isplitr; · iapply (records_reached (Wm m ρ) K c (.rv true 0)); iexact HR
    isplitl [tT]; · iexact tT
    isplitl [vT] <;> iassumption
  · isplitl [aCF]; · iexact aCF
    isplitl [aSF0]; · iexact aSF0
    isplitl [aSF1]; · iexact aSF1
    isplitl [aVF1]; · iexact aVF1
    isplitl [aVF0]; · iexact aVF0
    isplitr; · iapply (records_reached (Wm m ρ) K c (.sd false 0)); iexact HR
    isplitr; · iapply (records_reached (Wm m ρ) K c (.sd false 1)); iexact HR
    isplitr; · iapply (records_reached (Wm m ρ) K c (.rv false 0)); iexact HR
    isplitl [tF]; · iexact tF
    isplitl [vF] <;> iassumption

/-- What the launch gives a device is what it starts the call from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G'
  iintro ⟨-, #Hlev, Hcr, -, ⟨%K, #HA, HL⟩⟩
  imodintro
  isplitl
  · have hR : iprop(agreed m ρ K ∗ levAts L lv) ⊢ (records (Wm m ρ) K : sProp 𝕄) := by
      unfold agreed records
      iintro ⟨⟨H1, H2⟩, H3⟩
      isplitl [H1]; · iexact H1
      isplitl [H2] <;> iassumption
    ihave #HR := hR $$ []
    · isplitl; · iexact HA
      iexact Hlev
    unfold start
    isplitr
    · iexists K; iexact HR
    iapply (init_intro m ρ K c)
    isplitr; · iexact HR
    isplitl [HL] <;> iassumption
  · iempintro

/-- With the call's scratch, it is what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ Scr
  iintro ⟨Hs, -, HT, HF⟩
  isplitl [Hs]; · iexact Hs
  isplitl [HT]; · iexact HT
  iexact HF

/-- What the body leaves has every semaphore at zero and the scratch to give back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ Scr
  rw [zeros_split]
  iintro ⟨⟨HU, HO⟩, HT, HF⟩
  isplitl [HU]; · iexact HU
  isplitl [HO]; · iexact HO
  isplitl [HT]; · iexact HT
  iexact HF

/-- Everything owed at the start is owed above the staging semaphores. -/
theorem above_O₀ (c : Dev nD) : Above 0 (O₀ c) :=
  ((((above_remA true c 0).mono (Nat.zero_le _)).add ((above_remA false c 0).mono (Nat.zero_le _))).add
    (Above.at _ _ _ _ _ (by decide) (by decide))).add (Above.at _ _ _ _ _ (by decide) (by decide))

set_option maxRecDepth 20000 in
/-- While a device owes anything, it may still wait for its staging copies. -/
theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    mayWait c _ 0 _ (by decide) (by
      have h0 : lv ((c : Thread nD τ), .dma ((cfg0.win w).sem s)) 0 = 0 := by
        unfold lv
        rw [show kindOf (.dma ((cfg0.win w).sem s)) = none from by fin_cases w <;> fin_cases s <;> decide]; rfl
      refine Eq.mpr (congrArg (fun n => Above n _) h0) ?_
      rcases t with ⟨_ | _, ht⟩
      · exact above_O₀ c
      · exact Above.zero 0)

/-! ## The run -/

/-- What array `w` of device `c` holds at the end. -/
def finalA (c : Dev nD) (w : Fin cfg0.W) : Buf (Elt F) ((cfg0.win w).arr.view.loc (c : Thread nD τ)) := (dats m ρ 0 c).arrAt w cfg0.N

/-- Every device's arrays hold that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with every semaphore at zero, every execution of the thirty-two devices ends, with each array as
    `finalA` says and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays after the run hold what they held. -/
theorem finalA_arg0 (c : Dev nD) : finalA m ρ c (0 : Fin 6) = (s₀ m ρ).mem (win0_0.arr.view.loc (c : Thread nD τ)) := (dats (F := F) m ρ 0 c).arrAt_in (0 : Fin 6) rfl _
/-- So are the router's weights, -/
theorem finalA_arg1 (c : Dev nD) : finalA m ρ c (1 : Fin 6) = (s₀ m ρ).mem (win0_1.arr.view.loc (c : Thread nD τ)) := (dats (F := F) m ρ 0 c).arrAt_in (1 : Fin 6) rfl _
/-- the routes, -/
theorem finalA_arg2 (c : Dev nD) : finalA m ρ c (2 : Fin 6) = (s₀ m ρ).mem (win0_2.arr.view.loc (c : Thread nD τ)) := (dats (F := F) m ρ 0 c).arrAt_in (2 : Fin 6) rfl _
/-- the experts' matrices -/
theorem finalA_arg3 (c : Dev nD) : finalA m ρ c (3 : Fin 6) = (s₀ m ρ).mem (win0_3.arr.view.loc (c : Thread nD τ)) := (dats (F := F) m ρ 0 c).arrAt_in (3 : Fin 6) rfl _
/-- and the shared expert's matrix. -/
theorem finalA_arg4 (c : Dev nD) : finalA m ρ c (4 : Fin 6) = (s₀ m ρ).mem (win0_4.arr.view.loc (c : Thread nD τ)) := (dats (F := F) m ρ 0 c).arrAt_in (4 : Fin 6) rfl _

/-- The run, of the program's own arrays: the operands are unchanged, every semaphore is at zero, and the result arrays
    are as `finalA` says. -/
theorem run_arrays : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = (fun _ => 0)
    ∧ ∀ c : Dev nD, r.2.mem ((c.tc : Thread nD τ).loc main_v1) = finalA m ρ c (5 : Fin 6)) :=
  (θ_run defs _ _).mono (fun _ h => ⟨fun c => ⟨(h.1 c 0).trans (finalA_arg0 m ρ c), (h.1 c 1).trans (finalA_arg1 m ρ c), (h.1 c 2).trans (finalA_arg2 m ρ c),
    (h.1 c 3).trans (finalA_arg3 m ρ c), (h.1 c 4).trans (finalA_arg4 m ρ c)⟩, h.2, fun c => h.1 c 5⟩) (run_main m ρ)

end Cert.KernelIdeal.Ring

end
-- ==== Proof.Frames.lean ====
/-
# The three frames

Each of the programs ends, leaves its arguments as they were and every semaphore at zero.
-/
module

public import proofs.«01_k».proof.Proof.Launch
public import proofs.«01_k».proof.Proof.Gen.Kernel
public import proofs.«01_k».proof.Proof.Gen.ReferenceIdeal.Run
public import proofs.«01_k».proof.Defs
public import Idealize.ShloMosaic.Lib.Quiescent

@[expose] public section

noncomputable section

namespace Cert.Proof

open Idealize.ShloMosaic Idealize.SL.Sem Cert.KernelIdeal.Ring

/-- The kernel over the extended reals: its run, read at the operands and the semaphores. -/
theorem frame_ideal : Cert.quiescent_KernelIdeal := fun m ρ _ =>
  (θ_run Cert.KernelIdeal.defs _ _).mono (fun _ h => ⟨h.1, h.2.1⟩) (run_arrays (F := Ideal) m ρ)

/-- The two programs have the same body. -/
theorem bodies_eq : (Cert.Kernel.defs₀ (F := Bits)) = Cert.KernelIdeal.defs₀ (F := Bits) := by
  unfold Cert.Kernel.defs₀ Cert.KernelIdeal.defs₀
  refine congrArg Defs.onTc (funext fun l => funext fun a => ?_)
  match l, a with
  | 0, (t, s) => rfl
  | ⟨n + 1, h⟩, _ => exact absurd h (Nat.not_lt.2 (Nat.le_add_left _ _))

/-- So their tables of bodies, the pipeline's included, are the same. -/
theorem defs_eq : (Cert.Kernel.defs (F := Bits)) = Cert.KernelIdeal.defs (F := Bits) :=
  congrArg (Pipeline.defs Cert.KernelIdeal.pcfgs) bodies_eq

/-- The kernel over float words: the same run, which holds for any float values. -/
theorem frame_kernel : Cert.quiescent_Kernel := fun m ρ _ => by
  rw [defs_eq]
  exact (θ_run Cert.KernelIdeal.defs _ _).mono (fun _ h => ⟨h.1, h.2.1⟩) (run_arrays (F := Bits) m ρ)

/-- The reference: no operation writes an argument, and there is no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Arrays.lean ====
/-
# What the arrays hold after the run

The call moves every array as one block, so the staged operands are the arrays themselves and the result array holds the
block the device computed.
-/
module

public import proofs.«01_k».proof.Proof.Launch

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg) (c : Dev nD)

/-- The tokens a device works on are its block of them. -/
theorem xS_eq : xS m ρ c = m ((c.tc : Thread nD τ).loc main_arg0) :=
  Memref.read_access_unit_zero (Elt F) main_arg0 (funext fun a => by fin_cases a <;> decide) (fun a => by fin_cases a <;> decide) _
/-- So are the router's weights, -/
theorem rS_eq : rS m ρ c = m ((c.tc : Thread nD τ).loc main_arg1) :=
  Memref.read_access_unit_zero (Elt F) main_arg1 (funext fun a => by fin_cases a <;> decide) (fun a => by fin_cases a <;> decide) _
/-- the routes, -/
theorem tS_eq : tS m ρ c = m ((c.tc : Thread nD τ).loc main_arg2) :=
  Memref.read_access_unit_zero (Elt F) main_arg2 (funext fun a => by fin_cases a <;> decide) (fun a => by fin_cases a <;> decide) _
/-- the experts' matrices -/
theorem eS_eq : eS m ρ c = m ((c.tc : Thread nD τ).loc main_arg3) :=
  Memref.read_access_unit_zero (Elt F) main_arg3 (funext fun a => by fin_cases a <;> decide) (fun a => by fin_cases a <;> decide) _
/-- and the shared expert's matrix. -/
theorem wS_eq : wS m ρ c = m ((c.tc : Thread nD τ).loc main_arg4) :=
  Memref.read_access_unit_zero (Elt F) main_arg4 (funext fun a => by fin_cases a <;> decide) (fun a => by fin_cases a <;> decide) _

/-- The result array ends holding what the device computed. -/
theorem finalA_out : finalA m ρ c (5 : Fin 6) = outS m ρ c := by
  have h : (win0_5.blk (0 : Fin 1)).view.read (Elt F) (finalA m ρ c (5 : Fin 6)) = outS m ρ c := by
    unfold finalA
    rw [show cfg0.N = ((0 : Fin 1) : Fin cfg0.N).val + 1 from rfl, (dats m ρ 0 c).arrAt_succ (5 : Fin 6) (0 : Fin 1),
      show (cfg0.win (5 : Fin 6)).flush (0 : Fin 1) = true from by decide, if_pos rfl]
    exact View.read_write_univ _ _
  exact (Memref.read_access_unit_zero (Elt F) main_v1 (funext fun a => by fin_cases a <;> decide)
    (fun a => by fin_cases a <;> decide) _).symm.trans h

end Cert.KernelIdeal.Ring

end
-- ==== Proof.Terms.lean ====
/-
# The quantities both programs compute

For one token: the score of every expert, the probability of every expert (the softmax of the scores), and the
contribution of the expert the token is routed to. Values are extended reals.
-/
module

public import Idealize.ShloMosaic.PureOps.Ideal

@[expose] public section

noncomputable section

namespace Cert.Moe

open Idealize.ShloMosaic
open scoped BigOperators

/-- The scores of the 64 experts for a token `x` under the router's weights `r`. -/
def score (x : Fin 256 → EReal) (r : Fin 256 → Fin 64 → EReal) (e : Fin 64) : EReal := ∑ k, x k * r k e

/-- The largest of the scores. -/
def top (s : Fin 64 → EReal) : EReal := Finset.univ.fold max (Ideal.ofBits FTy.f32 4286578688#32) s

/-- The softmax of the scores. -/
def prob (s : Fin 64 → EReal) (e : Fin 64) : EReal :=
  Ideal.div (Ideal.exp (s e - top s)) (∑ e', Ideal.exp (s e' - top s))

/-- Column `f` of what the shared expert `w` makes of the token. -/
def shared (x : Fin 256 → EReal) (w : Fin 256 → Fin 512 → EReal) (f : Fin 512) : EReal := ∑ k, x k * w k f

/-- Column `f` of what the routed expert adds: the probability of expert `t` times its matrix's product with the token;
    nothing where `t` is not an expert. -/
def routed (x : Fin 256 → EReal) (r : Fin 256 → Fin 64 → EReal) (t : BitVec 32) (E : Fin 64 → Fin 256 → Fin 512 → EReal)
    (f : Fin 512) : EReal :=
  if h : t.toNat < 64 then prob (score x r) ⟨t.toNat, h⟩ * ∑ d, x d * E ⟨t.toNat, h⟩ d f else 0

/-- The value `v` if the token is routed to expert `2·o + k`, else zero; the numbers are 32-bit words. -/
def pick (t o k : BitVec 32) (v : EReal) : EReal :=
  Scalar.select (IntOp.cmpi .eq t (Scalar.addi (Scalar.muli 2#32 o) k)) v 0

/-- Column `f` of what the two matrices `w` of device `o` add for a token `x` of weight `p` routed to expert `t`. -/
def part (x : Fin 256 → EReal) (t : BitVec 32) (p : EReal) (o : BitVec 32) (w : Fin 2 → Fin 256 → Fin 512 → EReal)
    (f : Fin 512) : EReal :=
  ∑ d, pick t o 0#32 (p * x d * w 0 d f) + ∑ d, pick t o 1#32 (p * x d * w 1 d f)

end Cert.Moe

end
-- ==== Proof.Block.lean ====
module

public import proofs.«01_k».proof.Proof.Ring
public import proofs.«01_k».proof.Proof.Terms
public import Idealize.ShloMosaic.Lib.Pointwise

/-!
What the pieces of the kernel's arithmetic hold at an index, on one device's blocks.
-/

@[expose] public section

noncomputable section

namespace Cert.KernelIdeal.Ring

open Cert.KernelIdeal Cert.KernelIdeal.Gen Cert.Moe
open Idealize.ShloMosaic Idealize.ShloMosaic.Pointwise

/-- Row `i` of a two-axis array. -/
abbrev row {a b : ℕ} (x : (⟨2, ![a, b]⟩ : Shape).Idx → EReal) (i : Fin a) (j : Fin b) : EReal := x (ix2 i j)

/-- The two matrices of a slot. -/
abbrev mats (w : Vec Ideal S1x2x256x512 .bf16) (k : Fin 2) (d : Fin 256) (f : Fin 512) : EReal := w (ix4 0 k d f)

/-- The probabilities of a row: the softmax of the row's scores. -/
theorem probs_apply (x : Vec Ideal S512x256 .f32) (r : Vec Ideal S256x64 .f32) (i : Fin 512) (e : Fin 64) :
    k0_pay3 (F := Ideal) x r (ix2 i e) = prob (score (row x i) (row r)) e := by
  pointwise [k0_pay3, k0_pay2]
  rfl

/-- A row's weight: the sum over the experts of the probability where the expert is the routed one, of zero elsewhere. -/
theorem weight_apply (pr : FVec Ideal S512x64 .f32) (t : Vec Ideal S512x1 .i32) (i : Fin 512) (z : Fin 1) :
    k0_pay6 pr (k0_pay5 t) (ix2 i z)
      = ∑ e, Scalar.select (IntOp.cmpi CmpIPredicate.eq (t (ix2 i 0)) (BitVec.ofNat 32 e.val)) (row pr i e) 0 := by
  pointwise [k0_pay6, k0_pay5, k0_pay4]

/-- The shared expert's product. -/
theorem shared_apply (x : Vec Ideal S512x256 .f32) (w : Vec Ideal S256x512 .f32) (i f : Fin 512) :
    k0_pay7 (k0_pay2 x) w (ix2 i f) = shared (row x i) (row w) f := by
  pointwise [k0_pay7, k0_pay2]
  rfl

/-- A device's own matrices as its slots hold them. -/
theorem mats_apply (e : Vec Ideal S2x256x512 .f32) (k : Fin 2) (d : Fin 256) (f : Fin 512) :
    mats (k0_pay9 (F := Ideal) e) k d f = e (ix3 k d f) := by
  show k0_pay9 (F := Ideal) e (ix4 0 k d f) = e (ix3 k d f)
  pointwise [k0_pay9, k0_pay8]

/-- Positions of a slot with the same matrix and the same row are the same. -/
theorem ix4_congr {a : Fin 2} {b : Fin 256} {k : Fin 2} {d : Fin 256} {f : Fin 512} (h : a.val = k.val) (h' : b.val = d.val) :
    (ix4 0 a b f : S1x2x256x512.Idx) = ix4 0 k d f := by
  rw [Fin.ext h, Fin.ext h']

/-- A sum over 1024 entries is the sum of the sums over its four quarters. -/
theorem sum_quarters (G : Fin 1024 → EReal) :
    ∑ x, G x = (∑ d : Fin 256, G ⟨d.val, by omega⟩ + ∑ d : Fin 256, G ⟨256 + d.val, by omega⟩)
      + (∑ d : Fin 256, G ⟨512 + d.val, by omega⟩ + ∑ d : Fin 256, G ⟨512 + (256 + d.val), by omega⟩) := by
  have h := Fin.sum_univ_add (a := 512) (b := 512) G
  rw [Fin.sum_univ_add (a := 256) (b := 256), Fin.sum_univ_add (a := 256) (b := 256)] at h
  exact h

/-- A choice between a number and zero, times a factor. -/
theorem select_mul (c : BitVec 1) (a b : EReal) : Scalar.select c a 0 * b = Scalar.select c (a * b) 0 := by
  unfold Scalar.select
  split <;> simp

/-- One slot's matrices add their contribution. -/
theorem add1_apply (x : FVec Ideal S512x256 .f32) (t : IVec S512x1 32) (p : FVec Ideal S512x1 .f32) (acc : FVec Ideal S512x512 .f32)
    (o : BitVec 32) (w : Vec Ideal S1x2x256x512 .bf16) (i f : Fin 512) :
    add1 x t p acc o w (ix2 i f) = acc (ix2 i f) + part (row x i) (t (ix2 i 0)) (p (ix2 i 0)) o (mats w) f := by
  pointwise [add1, col, mat]
  refine congrArg₂ (· + ·) rfl (congrArg₂ (· + ·) (Finset.sum_congr rfl fun d _ => ?_) (Finset.sum_congr rfl fun d _ => ?_))
  · rw [ix4_congr (k := 0) (d := d) (by show d.val / 256 = 0; omega) (by show d.val % 256 = d.val; omega)]
    rfl
  · rw [ix4_congr (k := 1) (d := d) (by show (256 + d.val) / 256 = 1; omega) (by show (256 + d.val) % 256 = d.val; omega)]
    rfl

/-- Two slots' matrices add both contributions. -/
theorem add2_apply (x : FVec Ideal S512x256 .f32) (t : IVec S512x1 32) (p : FVec Ideal S512x1 .f32) (acc : FVec Ideal S512x512 .f32)
    (o : BitVec 32) (w : Vec Ideal S1x2x256x512 .bf16) (o' : BitVec 32) (w' : Vec Ideal S1x2x256x512 .bf16) (i f : Fin 512) :
    add2 x t p acc o w o' w' (ix2 i f) = acc (ix2 i f) + (part (row x i) (t (ix2 i 0)) (p (ix2 i 0)) o (mats w) f
      + part (row x i) (t (ix2 i 0)) (p (ix2 i 0)) o' (mats w') f) := by
  pointwise [add2, col, mat]
  refine congrArg₂ (· + ·) rfl ?_
  rw [sum_quarters]
  refine congrArg₂ (· + ·) (congrArg₂ (· + ·) ?_ ?_) (congrArg₂ (· + ·) ?_ ?_) <;>
    refine Finset.sum_congr rfl fun d _ => ?_ <;> dsimp only
  · rw [dif_pos (by omega), dif_pos (by omega), select_mul,
      ix4_congr (k := 0) (d := d) (by show d.val / 256 = 0; omega) (by show d.val % 256 = d.val; omega)]
    rfl
  · rw [dif_neg (by omega), dif_pos (by omega), dif_pos (by omega), select_mul,
      ix4_congr (k := 1) (d := d) (by show (256 + d.val) / 256 = 1; omega) (by show (256 + d.val) % 256 = d.val; omega)]
    simp only [Nat.add_sub_cancel_left]
    rfl
  · rw [dif_neg (by omega), dif_neg (by omega), dif_pos (by omega), dif_neg (by omega), select_mul,
      ix4_congr (k := 0) (d := d) (by show (512 + d.val - 512) / 256 = 0; omega) (by show (512 + d.val - 512) % 256 = d.val; omega)]
    simp only [show 512 + d.val - 256 - 256 = d.val by omega]
    rfl
  · rw [dif_neg (by omega), dif_neg (by omega), dif_neg (by omega), dif_neg (by omega), select_mul,
      ix4_congr (k := 1) (d := d) (by show (512 + (256 + d.val) - 512) / 256 = 1; omega)
        (by show (512 + (256 + d.val) - 512) % 256 = d.val; omega)]
    simp only [show 512 + (256 + d.val) - 256 - 256 - 256 = d.val by omega]
    rfl

end Cert.KernelIdeal.Ring

end
-- ==== Proof.Origins.lean ====
/-
# Every device's matrices arrive once

After sixteen hops to the right and fifteen to the left, a device has met the matrices of all 32 devices, its own
included, each once; and the number the kernel computes for each hop is the number of the device they come from.
-/
module

public import proofs.«01_k».proof.Proof.Protocol
public import proofs.«01_k».proof.Proof.Terms

@[expose] public section

noncomputable section

namespace Cert.KernelIdeal.Ring

open Cert.KernelIdeal Cert.KernelIdeal.Gen
open Idealize.ShloMosaic
open scoped BigOperators

/-- The number the kernel computes for a device is the device's own. -/
theorem idW_eq (c : Dev nD) : idW c = BitVec.ofNat 32 c.val := by revert c; decide +kernel
/-- The number it computes for hop `h` to the right. -/
theorem orgR_eq (c : Dev nD) (h : ℕ) (hh : h < 17) : orgR c (BitVec.ofNat 32 h) = BitVec.ofNat 32 (org true h c).val :=
  (by decide +kernel : ∀ c : Dev nD, ∀ h : Fin 17, orgR c (BitVec.ofNat 32 h.val) = BitVec.ofNat 32 (org true h.val c).val) c ⟨h, hh⟩
/-- The number it computes for hop `h` to the left. -/
theorem orgL_eq (c : Dev nD) (h : ℕ) (hh : h < 16) : orgL c (BitVec.ofNat 32 h) = BitVec.ofNat 32 (org false h c).val :=
  (by decide +kernel : ∀ c : Dev nD, ∀ h : Fin 16, orgL c (BitVec.ofNat 32 h.val) = BitVec.ofNat 32 (org false h.val c).val) c ⟨h, hh⟩

/-- The devices in the order device `c` meets their matrices in: its own and the sixteen to its left, then the fifteen to
    its right. -/
def origin (c : Dev nD) (j : ℕ) : Dev nD := if j < 17 then org true j c else org false (j - 16) c

/-- No device's matrices are met twice. -/
theorem origin_injective (c : Dev nD) : Function.Injective fun j : Fin 32 => origin c j.val := by
  revert c; decide +kernel

/-- A sum over all devices, in that order. -/
theorem sum_origins (c : Dev nD) (g : Dev nD → EReal) :
    ∑ o, g o = g c + ∑ h ∈ Finset.range 15, (g (org true (h + 1) c) + g (org false (h + 1) c)) + g (org true 16 c) := by
  have hb : Function.Bijective fun j : Fin 32 => origin c j.val := (Finite.injective_iff_bijective).1 (origin_injective c)
  have hr : ∀ h ∈ Finset.range 17, g (origin c h) = g (org true h c) := fun h hh =>
    congrArg g (if_pos (Finset.mem_range.1 hh))
  have hl : ∀ h ∈ Finset.range 15, g (origin c (17 + h)) = g (org false (h + 1) c) := fun h _ =>
    congrArg g ((if_neg (by omega)).trans (by rw [show 17 + h - 16 = h + 1 by omega]))
  rw [← hb.sum_comp g, Fin.sum_univ_eq_sum_range (fun j => g (origin c j)) 32, Finset.sum_range_add _ 17 15,
    Finset.sum_congr rfl hr, Finset.sum_congr rfl hl, Finset.sum_range_succ, Finset.sum_range_succ', Finset.sum_add_distrib]
  show _ + g c + _ + _ = g c + _ + _
  ac_rfl

end Cert.KernelIdeal.Ring

end
-- ==== Proof.Experts.lean ====
/-
# Sums over the experts

The kernel finds the routed expert by comparing: it sums over all 64 experts, or over the pairs of all 32 devices, terms
that are zero but for the routed one.
-/
module

public import proofs.«01_k».proof.Proof.Terms
public import Idealize.ShloMosaic.Lib.StableHlo.Predicate

@[expose] public section

noncomputable section

namespace Cert.Moe

open Idealize.ShloMosaic
open scoped BigOperators

/-- A choice by the equality of two words. -/
theorem select_eq (t e : BitVec 32) (v : EReal) : Scalar.select (IntOp.cmpi CmpIPredicate.eq t e) v 0 = if t = e then v else 0 := by
  unfold Scalar.select
  by_cases h : t = e
  · rw [if_pos h]; exact if_pos (StableHlo.Predicate.cmpi_eq_iff.2 h)
  · rw [if_neg h]; exact if_neg fun h' => h (StableHlo.Predicate.cmpi_eq_iff.1 h')

/-- A word is an expert's number when its value is. -/
theorem eq_ofNat_iff (t : BitVec 32) (e : Fin 64) : t = BitVec.ofNat 32 e.val ↔ t.toNat = e.val := by
  have := e.isLt
  rw [← BitVec.toNat_inj, BitVec.toNat_ofNat, Nat.mod_eq_of_lt (by omega)]

/-- A sum over the experts of terms that are zero but at expert `t`. -/
theorem sum_experts (t : BitVec 32) (T : Fin 64 → EReal) :
    ∑ e : Fin 64, Scalar.select (IntOp.cmpi CmpIPredicate.eq t (BitVec.ofNat 32 e.val)) (T e) 0
      = if h : t.toNat < 64 then T ⟨t.toNat, h⟩ else 0 := by
  simp only [select_eq, eq_ofNat_iff]
  by_cases h : t.toNat < 64
  · rw [dif_pos h, Finset.sum_eq_single ⟨t.toNat, h⟩ (fun e _ he => if_neg fun h' => he (Fin.ext h'.symm)) fun h' => absurd (Finset.mem_univ _) h']
    exact if_pos rfl
  · rw [dif_neg h]
    exact Finset.sum_eq_zero fun e _ => if_neg fun (h' : t.toNat = e.val) => h (h' ▸ e.isLt)

/-- A sum over the first `2·n` numbers, taken in pairs. -/
theorem sum_pairs (a : ℕ → EReal) : ∀ n, ∑ o ∈ Finset.range n, (a (2 * o) + a (2 * o + 1)) = ∑ e ∈ Finset.range (2 * n), a e
  | 0 => rfl
  | n + 1 => by
    rw [Finset.sum_range_succ, sum_pairs a n, show 2 * (n + 1) = 2 * n + 1 + 1 by omega, Finset.sum_range_succ, Finset.sum_range_succ,
      add_assoc]

/-- The number the kernel computes for a device's first expert, -/
theorem even_word (o : Fin 32) : Scalar.addi (Scalar.muli 2#32 (BitVec.ofNat 32 o.val)) 0#32 = BitVec.ofNat 32 (2 * o.val) := by
  revert o; decide +kernel
/-- and for its second. -/
theorem odd_word (o : Fin 32) : Scalar.addi (Scalar.muli 2#32 (BitVec.ofNat 32 o.val)) 1#32 = BitVec.ofNat 32 (2 * o.val + 1) := by
  revert o; decide +kernel

/-- A choice between summands is a choice between sums. -/
theorem sum_pick (t o k : BitVec 32) (v : Fin 256 → EReal) : ∑ d, pick t o k (v d) = pick t o k (∑ d, v d) := by
  unfold pick
  simp only [select_eq]
  by_cases h : t = Scalar.addi (Scalar.muli 2#32 o) k
  · simp only [if_pos h]
  · simp only [if_neg h, Finset.sum_const_zero]

/-- The contributions of all 32 devices' pairs of matrices come down to the routed expert's. -/
theorem sum_parts (x : Fin 256 → EReal) (t : BitVec 32) (p : EReal) (E : Fin 64 → Fin 256 → Fin 512 → EReal) (f : Fin 512) :
    ∑ o : Fin 32, part x t p (BitVec.ofNat 32 o.val) (fun k => E ⟨2 * o.val + k.val, by omega⟩) f
      = if h : t.toNat < 64 then ∑ d, p * x d * E ⟨t.toNat, h⟩ d f else 0 := by
  rw [← sum_experts t fun e => ∑ d, p * x d * E e d f]
  let a : ℕ → EReal := fun e => if h : e < 64 then
    Scalar.select (IntOp.cmpi CmpIPredicate.eq t (BitVec.ofNat 32 e)) (∑ d, p * x d * E ⟨e, h⟩ d f) 0 else 0
  have hl : ∀ o : Fin 32, part x t p (BitVec.ofNat 32 o.val) (fun k => E ⟨2 * o.val + k.val, by omega⟩) f = a (2 * o.val) + a (2 * o.val + 1) := fun o => by
    unfold part
    rw [sum_pick, sum_pick]
    unfold pick
    rw [even_word, odd_word]
    simp only [a]
    rw [dif_pos (by omega), dif_pos (by omega)]
    rfl
  have hr : ∀ e : Fin 64, Scalar.select (IntOp.cmpi CmpIPredicate.eq t (BitVec.ofNat 32 e.val)) (∑ d, p * x d * E e d f) 0 = a e.val :=
    fun e => by simp only [a]; rw [dif_pos e.isLt]
  rw [Finset.sum_congr rfl fun o _ => hl o, Finset.sum_congr rfl fun e _ => hr e,
    Fin.sum_univ_eq_sum_range (fun o => a (2 * o) + a (2 * o + 1)) 32, Fin.sum_univ_eq_sum_range a 64]
  exact sum_pairs a 32

end Cert.Moe

end
-- ==== Proof.Scores.lean ====
/-
# Real scores have real probabilities

Where a token and the router's weights are real numbers, so are the scores; the probabilities are then neither negative
nor infinite, and multiplying by one of them distributes over sums of extended reals.
-/
module

public import proofs.«01_k».proof.Proof.Terms

@[expose] public section

noncomputable section

namespace Cert.Moe

open Idealize.ShloMosaic
open scoped BigOperators

/-- Neither infinity. -/
def IsReal (v : EReal) : Prop := v ≠ ⊤ ∧ v ≠ ⊥

/-- Such a number is the real number it stands for. -/
theorem IsReal.coe {v : EReal} (h : IsReal v) : ((v.toReal : ℝ) : EReal) = v := EReal.coe_toReal h.1 h.2

/-- A sum of real numbers, as extended reals, is their sum. -/
theorem coe_sum {ι : Type} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The scores of a real token under real weights are real. -/
theorem score_real {x : Fin 256 → EReal} {r : Fin 256 → Fin 64 → EReal} (hx : ∀ k, IsReal (x k)) (hr : ∀ k e, IsReal (r k e))
    (e : Fin 64) : IsReal (score x r e) := by
  have h : score x r e = ((∑ k, (x k).toReal * (r k e).toReal : ℝ) : EReal) := by
    rw [← coe_sum]
    refine Finset.sum_congr rfl fun k _ => ?_
    rw [EReal.coe_mul, (hx k).coe, (hr k e).coe]
  rw [h]
  exact ⟨EReal.coe_ne_top _, EReal.coe_ne_bot _⟩

/-- The word of negative infinity is the extended reals' smallest element. -/
theorem ofBits_bot : Ideal.ofBits FTy.f32 4286578688#32 = (⊥ : EReal) := by
  simp [Ideal.ofBits, Ideal.ieee]

/-- The largest of real scores is real. -/
theorem top_real {s : Fin 64 → EReal} (hs : ∀ e, IsReal (s e)) : IsReal (top s) := by
  unfold top
  rw [ofBits_bot]
  refine ⟨ne_of_lt ((Finset.fold_max_lt _).2 ⟨bot_lt_top, fun e _ => lt_top_iff_ne_top.2 (hs e).1⟩), ne_of_gt ?_⟩
  exact (Finset.lt_fold_max _).2 (Or.inr ⟨0, Finset.mem_univ _, bot_lt_iff_ne_bot.2 (hs 0).2⟩)

/-- The probabilities of real scores are neither negative nor infinite. -/
theorem prob_real {s : Fin 64 → EReal} (hs : ∀ e, IsReal (s e)) (e : Fin 64) : 0 ≤ prob s e ∧ prob s e ≠ ⊤ := by
  have hx : ∀ e, Ideal.exp (s e - top s) = ((Real.exp ((s e).toReal - (top s).toReal) : ℝ) : EReal) := fun e => by
    rw [← (hs e).coe, ← (top_real hs).coe, ← EReal.coe_sub, EReal.toReal_coe, EReal.toReal_coe]
    rfl
  have hpos : 0 < ∑ e, Real.exp ((s e).toReal - (top s).toReal) :=
    Finset.sum_pos (fun e _ => Real.exp_pos _) ⟨0, Finset.mem_univ _⟩
  have h : prob s e = ((Real.exp ((s e).toReal - (top s).toReal) * (∑ e, Real.exp ((s e).toReal - (top s).toReal))⁻¹ : ℝ) : EReal) := by
    unfold prob Ideal.div
    simp only [hx, coe_sum]
    rw [if_neg (by exact_mod_cast hpos.ne'), EReal.coe_mul, EReal.coe_inv]
  rw [h]
  exact ⟨by exact_mod_cast mul_nonneg (Real.exp_pos _).le (inv_nonneg.2 hpos.le), EReal.coe_ne_top _⟩

/-- A factor neither negative nor infinite distributes over a sum. -/
theorem mul_sum_of_real {p : EReal} (h0 : 0 ≤ p) (h1 : p ≠ ⊤) {ι : Type} (s : Finset ι) (g : ι → EReal) :
    ∑ i ∈ s, p * g i = p * ∑ i ∈ s, g i := by
  classical
  induction s using Finset.induction_on with
  | empty => simp
  | insert a s ha ih => rw [Finset.sum_insert ha, Finset.sum_insert ha, ih, EReal.left_distrib_of_nonneg_of_ne_top h0 h1]

end Cert.Moe

end
-- ==== Proof.Result.lean ====
/-
# What a device computes

The result block of a device at an index: the shared expert's product, plus the contribution of the expert the token is
routed to, its probability multiplied into the token before the product with the expert's matrix.
-/
module

public import proofs.«01_k».proof.Proof.Body
public import proofs.«01_k».proof.Proof.Block
public import proofs.«01_k».proof.Proof.Origins
public import proofs.«01_k».proof.Proof.Experts
public import proofs.«01_k».proof.Proof.Scores

@[expose] public section

noncomputable section

namespace Cert.KernelIdeal.Ring

open Cert.KernelIdeal Cert.KernelIdeal.Gen Cert.Moe
open Idealize.ShloMosaic Idealize.ShloMosaic.Pointwise
open scoped BigOperators

variable (W : Dev nD → Mats Ideal) (x : FVec Ideal S512x256 .f32) (t : IVec S512x1 32) (p : FVec Ideal S512x1 .f32) (c : Dev nD)
  (i f : Fin 512)

/-- What device `o`'s matrices add at row `i`, column `f`. -/
abbrev adds (o : Dev nD) : EReal := part (row x i) (t (ix2 i 0)) (p (ix2 i 0)) (BitVec.ofNat 32 o.val) (mats (W o)) f

/-- What the hops `1, …, n` add at an index. -/
theorem accs_apply (acc : FVec Ideal S512x512 .f32) : ∀ n, n ≤ 15 → accs W x t p c acc n (ix2 i f)
    = acc (ix2 i f) + ∑ h ∈ Finset.range n, (adds W x t p i f (org true (h + 1) c) + adds W x t p i f (org false (h + 1) c))
  | 0, _ => (add_zero _).symm
  | n + 1, hn => by
    show acc2 W x t p c (n + 1) (accs W x t p c acc n) (ix2 i f) = _
    unfold acc2
    rw [add2_apply, accs_apply acc n (by omega), orgR_eq c (n + 1) (by omega), orgL_eq c (n + 1) (by omega), Finset.sum_range_succ, add_assoc]

/-- The contributions of all the devices' matrices, in the order of the hops. -/
theorem hops_apply (acc : FVec Ideal S512x512 .f32) :
    add1 x t p (accs W x t p c (add1 x t p acc (idW c) (W c)) 15) (orgR c 16#32) (W (org true 16 c)) (ix2 i f)
      = acc (ix2 i f) + ∑ o, adds W x t p i f o := by
  rw [add1_apply, accs_apply W x t p c i f _ 15 le_rfl, add1_apply, idW_eq, show (16#32 : BitVec 32) = BitVec.ofNat 32 16 from rfl,
    orgR_eq c 16 (by omega), sum_origins c, add_assoc, add_assoc, ← add_assoc (adds W x t p i f c)]

/-- A row's weight is the probability of the routed expert, zero where the route names none. -/
theorem weight_eq (X : Vec Ideal S512x256 .f32) (R : Vec Ideal S256x64 .f32) (T : Vec Ideal S512x1 .i32) :
    k0_pay6 (k0_pay3 X R) (k0_pay5 T) (ix2 i 0)
      = if h : (T (ix2 i 0)).toNat < 64 then prob (score (row X i) (row R)) ⟨(T (ix2 i 0)).toNat, h⟩ else 0 := by
  rw [weight_apply, Finset.sum_congr rfl fun e _ => congrArg (fun v => Scalar.select _ v (0 : EReal)) (probs_apply X R i e)]
  exact sum_experts _ _

/-- The result of device `c` at row `i`, column `f`, where the scores are real: the devices hold the expert matrices `E`
    two by two. -/
theorem result_apply (X : Vec Ideal S512x256 .f32) (R : Vec Ideal S256x64 .f32) (T : Vec Ideal S512x1 .i32) (S : Vec Ideal S256x512 .f32)
    (E : Fin 64 → Fin 256 → Fin 512 → EReal) (hW : ∀ (o : Dev nD) k d f, mats (W o) k d f = E ⟨2 * o.val + k.val, by have : o.val < 32 := o.isLt; omega⟩ d f)
    (hX : ∀ k, IsReal (X (ix2 i k))) (hR : ∀ k e, IsReal (R (ix2 k e))) :
    resultOf W c X R T S (ix2 i f) = shared (row X i) (row S) f + routed (row X i) (row R) (T (ix2 i 0)) E f := by
  have h2 : row (k0_pay2 X) i = row X i := funext fun k => by
    show k0_pay2 X (ix2 i k) = X (ix2 i k)
    pointwise [k0_pay2]
  have h4 : k0_pay4 (F := Ideal) T (ix2 i 0) = T (ix2 i 0) := by
    pointwise [k0_pay4]
  have hm : ∀ o : Dev nD, mats (W o) = fun k => E ⟨2 * o.val + k.val, by have : o.val < 32 := o.isLt; omega⟩ := fun o =>
    funext fun k => funext fun d => funext fun f => hW o k d f
  unfold resultOf
  rw [hops_apply, shared_apply]
  refine congrArg₂ (· + ·) rfl ?_
  unfold adds
  rw [h2, h4, weight_eq]
  simp only [hm]
  refine (sum_parts (row X i) (T (ix2 i 0)) _ E f).trans ?_
  unfold routed
  by_cases h : (T (ix2 i 0)).toNat < 64
  · have hp := prob_real (score_real (x := row X i) (r := row R) hX hR) ⟨(T (ix2 i 0)).toNat, h⟩
    rw [dif_pos h, dif_pos h, dif_pos h, ← mul_sum_of_real hp.1 hp.2]
    exact Finset.sum_congr rfl fun d _ => mul_assoc _ _ _
  · rw [dif_neg h, dif_neg h]

end Cert.KernelIdeal.Ring

end
-- ==== Proof.Gather.lean ====
module

public import proofs.«01_k».proof.Proof.Gen.ReferenceIdeal.Run
public import Idealize.ShloMosaic.Lib.Pointwise

/-!
The two gathers of the reference, read at an index: both read the routed expert number as a signed integer and bring it
into range.
-/

@[expose] public section

noncomputable section

namespace Cert.ReferenceIdeal.Value

open Cert.ReferenceIdeal
open Idealize.ShloMosaic Idealize.ShloMosaic.Pointwise

/-- The gather of single entries of a `[16384, 64]` array at rows of two start indices, read at row `n`: the entry at the
    two start indices of row `n`, each read signed and clamped. -/
theorem gather_entry {α : Type} (P : S16384x64.Idx → α) (idx : IVec S16384x2 32) (n : Fin 16384) :
    Host.gather gather_S16384x64_S16384x2_S16384_n_01_n_n_01_1_11 P idx (ix1 n)
      = P (ix2 ⟨min (idx (ix2 n 0)).toInt.toNat 16383, by omega⟩ ⟨min (idx (ix2 n 1)).toInt.toNat 63, by omega⟩) := by
  unfold Host.gather
  refine congrArg P (funext fun a => Fin.ext ?_)
  let d := gather_S16384x64_S16384x2_S16384_n_01_n_n_01_1_11
  have hsi : ∀ k : Fin 2, d.siIdx (ix1 n) k = ix2 n k := fun k => by
    funext b; refine Fin.ext ?_
    match b with
    | ⟨0, _⟩ => rfl
    | ⟨1, _⟩ => rfl
  show d.start (ix1 n) idx a + d.batchCoord (ix1 n) a + d.offCoord (ix1 n) a = _
  rw [GatherDims.batchCoord_eq_zero _ _ _ (List.not_mem_nil)]
  match a with
  | ⟨0, _⟩ =>
    rw [GatherDims.offCoord_eq_zero _ _ _ (fun h => ((GatherDims.mem_sKept _ _).mp h).1 (List.mem_cons_self ..))]
    show d.start (ix1 n) idx 0 + 0 + 0 = _
    unfold GatherDims.start
    rw [dif_pos (show (0 : Fin 2) ∈ d.startIndexMap from List.mem_cons_self ..)]
    exact congrArg (fun j => min (idx j).toInt.toNat 16383) (hsi 0)
  | ⟨1, _⟩ =>
    rw [GatherDims.offCoord_eq_zero _ _ _
      (fun h => ((GatherDims.mem_sKept _ _).mp h).1 (List.mem_cons_of_mem _ (List.mem_cons_self ..)))]
    show d.start (ix1 n) idx 1 + 0 + 0 = _
    unfold GatherDims.start
    rw [dif_pos (show (1 : Fin 2) ∈ d.startIndexMap from List.mem_cons_of_mem _ (List.mem_cons_self ..))]
    exact congrArg (fun j => min (idx j).toInt.toNat 63) (hsi 1)

/-- The gather of whole matrices of a `[64, 256, 512]` array, read at `(n, d, f)`: entry `(d, f)` of the matrix at row
    `n`'s start index, read signed and clamped. -/
theorem gather_mat {α : Type} (E : S64x256x512.Idx → α) (idx : IVec S16384x1 32) (n : Fin 16384) (k : Fin 256) (f : Fin 512) :
    Host.gather gather_S64x256x512_S16384x1_S16384x256x512_12_0_n_n_0_1_1256512 E idx (ix3 n k f)
      = E (ix3 ⟨min (idx (ix2 n 0)).toInt.toNat 63, by omega⟩ k f) := by
  unfold Host.gather
  refine congrArg E (funext fun a => Fin.ext ?_)
  let d := gather_S64x256x512_S16384x1_S16384x256x512_12_0_n_n_0_1_1256512
  have hsi : ∀ z : Fin 1, d.siIdx (ix3 n k f) z = ix2 n z := fun z => by
    funext b; refine Fin.ext ?_
    match b with
    | ⟨0, _⟩ => rfl
    | ⟨1, _⟩ => rfl
  have h0 : ∀ a : Fin 3, a ≠ 0 → a ∉ d.startIndexMap := fun a h => fun hm => h (List.mem_singleton.1 hm)
  show d.start (ix3 n k f) idx a + d.batchCoord (ix3 n k f) a + d.offCoord (ix3 n k f) a = _
  rw [GatherDims.batchCoord_eq_zero _ _ _ (List.not_mem_nil)]
  match a with
  | ⟨0, _⟩ =>
    rw [GatherDims.offCoord_eq_zero _ _ _ (fun h => ((GatherDims.mem_sKept _ _).mp h).1 (List.mem_singleton.2 rfl))]
    show d.start (ix3 n k f) idx 0 + 0 + 0 = _
    unfold GatherDims.start
    rw [dif_pos (show (0 : Fin 3) ∈ d.startIndexMap from List.mem_singleton.2 rfl)]
    exact congrArg (fun j => min (idx j).toInt.toNat 63) (hsi 0)
  | ⟨1, _⟩ =>
    show d.start (ix3 n k f) idx 1 + 0 + d.offCoord (ix3 n k f) 1 = _
    unfold GatherDims.start GatherDims.offCoord
    rw [dif_neg (h0 1 (by decide)), dif_pos ((GatherDims.mem_sKept _ _).mpr ⟨h0 1 (by decide), List.not_mem_nil⟩)]
    exact Nat.zero_add _
  | ⟨2, _⟩ =>
    show d.start (ix3 n k f) idx 2 + 0 + d.offCoord (ix3 n k f) 2 = _
    unfold GatherDims.start GatherDims.offCoord
    rw [dif_neg (h0 2 (by decide)), dif_pos ((GatherDims.mem_sKept _ _).mpr ⟨h0 2 (by decide), List.not_mem_nil⟩)]
    exact Nat.zero_add _

end Cert.ReferenceIdeal.Value

end
-- ==== Proof.RefValue.lean ====
module

public import proofs.«01_k».proof.Proof.Gather
public import proofs.«01_k».proof.Proof.Terms
public import Idealize.ShloMosaic.Lib.StableHlo.Predicate

/-!
What the reference's result holds at an index: the shared expert's product plus the routed expert's contribution.
-/

@[expose] public section

noncomputable section

namespace Cert.ReferenceIdeal.Value

open Cert.ReferenceIdeal Cert.Moe
open Idealize.ShloMosaic Idealize.ShloMosaic.Pointwise

/-- A word is an expert's number exactly when, read signed, it is neither negative nor above 63. -/
theorem expert_iff (t : BitVec 32) :
    IntOp.andi (IntOp.cmpi CmpIPredicate.sge t 0#32) (IntOp.cmpi CmpIPredicate.sle t 63#32) = BitVec.ofBool (decide (t.toNat < 64)) := by
  have h : ((0#32).sle t && t.sle 63#32) = decide (t.toNat < 64) := by
    rw [Bool.eq_iff_iff]
    simp only [BitVec.sle, BitVec.toInt_eq_toNat_cond, Bool.and_eq_true, decide_eq_true_eq]
    have := t.isLt
    simp only [BitVec.toNat_ofNat]
    omega
  rw [← h]
  show BitVec.ofBool ((0#32).sle t) &&& BitVec.ofBool (t.sle 63#32) = _
  rw [BitVec.ofBool_and_ofBool]

/-- A row's number is in range. -/
theorem row_in_range (n : Fin 16384) :
    IntOp.andi (IntOp.cmpi CmpIPredicate.sge (BitVec.ofNat 32 n.val) 0#32) (IntOp.cmpi CmpIPredicate.sle (BitVec.ofNat 32 n.val) 16383#32)
      = 1#1 := by
  have h : ((0#32).sle (BitVec.ofNat 32 n.val) && (BitVec.ofNat 32 n.val).sle 16383#32) = true := by
    simp only [BitVec.sle, BitVec.toInt_eq_toNat_cond, Bool.and_eq_true, decide_eq_true_eq]
    have := n.isLt
    simp only [BitVec.toNat_ofNat]
    omega
  show BitVec.ofBool ((0#32).sle (BitVec.ofNat 32 n.val)) &&& BitVec.ofBool ((BitVec.ofNat 32 n.val).sle 16383#32) = 1#1
  rw [BitVec.ofBool_and_ofBool, h]
  rfl

/-- A truth value and true; -/
theorem andi_one (b : BitVec 1) : IntOp.andi b 1#1 = b := by revert b; decide
/-- true and a truth value. -/
theorem one_andi (b : BitVec 1) : IntOp.andi 1#1 b = b := by revert b; decide

/-- The conjunction of one truth value is that value; -/
theorem fold_one (g : Fin 1 → BitVec 1) : Finset.fold IntOp.andi (1#1) g Finset.univ = g 0 := by
  rw [Finset.univ_unique, Finset.fold_singleton]
  exact andi_one _

/-- of two, their conjunction. -/
theorem fold_two (g : Fin 2 → BitVec 1) : Finset.fold IntOp.andi (1#1) g Finset.univ = IntOp.andi (g 0) (g 1) := by
  rw [show (Finset.univ : Finset (Fin 2)) = insert 0 {1} by decide, Finset.fold_insert (by decide), Finset.fold_singleton, andi_one]

/-- The largest row number a gather may use, -/
theorem last_row : lit0 (S2.rowMajor (ix1 (0 : Fin 2))) = 16383#32 := by decide +kernel
/-- and the largest expert's number. -/
theorem last_expert : lit0 (S2.rowMajor (ix1 (1 : Fin 2))) = 63#32 := by decide +kernel

/-- A word in range, read signed and clamped, is its number. -/
theorem clamped (w : BitVec 32) (N : ℕ) (hN : N < 2 ^ 31) (h : w.toNat ≤ N) : min w.toInt.toNat N = w.toNat := by
  rw [StableHlo.Predicate.toInt_eq_toNat_of_lt (by omega), Int.toNat_natCast]
  omega

/-- A row's number, read signed and clamped, is itself. -/
theorem row_clamped (n : Fin 16384) (h : min (BitVec.ofNat 32 n.val).toInt.toNat 16383 < 16384) :
    (⟨min (BitVec.ofNat 32 n.val).toInt.toNat 16383, h⟩ : Fin 16384) = n := by
  have := n.isLt
  have e : (BitVec.ofNat 32 n.val).toNat = n.val := by rw [BitVec.toNat_ofNat]; omega
  exact Fin.ext ((clamped _ 16383 (by omega) (by omega)).trans e)

/-- The reference's result at row `n`, column `f`. -/
theorem ref_apply (m : (ℓ : Loc nD τ sig) → Buf (Elt Ideal) ℓ) (n : Fin 16384) (f : Fin 512) :
    (res_main_v43 m (0 : Dev nD) (ix2 n f) : EReal)
      = shared (fun k => m ((0 : Dev nD).tc.loc main_arg0) (ix2 n k)) (fun k f => m ((0 : Dev nD).tc.loc main_arg4) (ix2 k f)) f
        + routed (fun k => m ((0 : Dev nD).tc.loc main_arg0) (ix2 n k)) (fun k e => m ((0 : Dev nD).tc.loc main_arg1) (ix2 k e))
            (m ((0 : Dev nD).tc.loc main_arg2) (ix2 n 0)) (fun e d f => m ((0 : Dev nD).tc.loc main_arg3) (ix3 e d f)) f := by
  unfold res_main_v43
  pointwise [gather_entry, gather_mat, fold_two, fold_one, last_row,
    last_expert, row_in_range, expert_iff, one_andi, row_clamped]
  refine congrArg₂ (· + ·) rfl ?_
  unfold routed
  by_cases h : (m ((0 : Dev nD).tc.loc main_arg2) (ix2 n 0)).toNat < 64
  · have e (h') : (⟨min (BitVec.toInt (m ((0 : Dev nD).tc.loc main_arg2) (ix2 n 0))).toNat 63, h'⟩ : Fin 64)
        = ⟨(m ((0 : Dev nD).tc.loc main_arg2) (ix2 n 0)).toNat, h⟩ := Fin.ext (clamped _ 63 (by omega) (by omega))
    rw [dif_pos h]
    simp only [if_pos h, e]
    rfl
  · rw [dif_neg h]
    simp only [if_neg h, zero_mul]

end Cert.ReferenceIdeal.Value

end
-- ==== Proof.Bounded.lean ====
/-
# What the precondition says

Where `finite` holds of a device's blocks, its tokens and the router's weights are real numbers.
-/
module

public import proofs.«01_k».proof.Proof.Gen.Pre_finite_KernelIdeal
public import proofs.«01_k».proof.Proof.Scores
public import Idealize.ShloMosaic.Lib.ReduceAll

@[expose] public section

noncomputable section

namespace Cert.Moe

open Idealize.ShloMosaic Cert.Pre_finite_KernelIdeal

/-- The word of positive infinity is the extended reals' largest element. -/
theorem ofBits_top : Ideal.ofBits FTy.f32 0x7F800000#32 = (⊤ : EReal) := by
  simp [Ideal.ofBits, Ideal.ieee]

/-- A number whose magnitude is below infinity is real. -/
theorem real_of_abs_lt {v : EReal} (h : max v (-v) < ⊤) : IsReal v :=
  ⟨fun e => by rw [e] at h; simp at h, fun e => by rw [e] at h; simp at h⟩

/-- Every entry of an array whose magnitudes are all below infinity is real. -/
theorem entry_real {s : Shape} (v : FVec Ideal s .f32) (h : S_.BroadcastsInDim s (![] : Fin 0 → Fin s.rank)) (i : s.Idx)
    (e : cmpf .olt (Host.absf v) (broadcastInDim s ![] h (constant S_ .f32 0x7F800000#32)) i = 1#1) : IsReal (v i) := by
  have e' : Ideal.cmp .olt (max (v i) (-(v i))) (Ideal.ofBits FTy.f32 0x7F800000#32) = 1#1 := e
  rw [ofBits_top] at e'
  refine real_of_abs_lt (by_contra fun hn => ?_)
  rw [show Ideal.cmp .olt (max (v i) (-(v i))) ⊤ = BitVec.ofBool (decide (max (v i) (-(v i)) < ⊤)) from rfl, decide_eq_false hn] at e'
  exact absurd e' (by decide)

/-- The precondition says that every entry of the tokens and of the router's weights is real. -/
theorem real_of_finite (x : FVec Ideal S512x256 .f32) (r : FVec Ideal S256x64 .f32) (t : IVec S512x1 32) (w : FVec Ideal S2x256x512 .f32)
    (s : FVec Ideal S256x512 .f32) (h : fn x r t w s = fun _ => 1#1) : (∀ i, IsReal (x i)) ∧ ∀ i, IsReal (r i) := by
  have h0 := congrFun h (fun a => a.elim0)
  unfold fn at h0
  have h1 := IntOp.andi_eq_one.1 h0
  exact ⟨fun i => entry_real x _ i (Host.reduce_andi_all _ _ _ _ _ h1.1 i), fun i => entry_real r _ i (Host.reduce_andi_all _ _ _ _ _ h1.2 i)⟩

end Cert.Moe

end
-- ==== Proof.Equation.lean ====
/-
# The equation

Each device's result block is its block of the reference's result.
-/
module

public import proofs.«01_k».proof.Proof.Arrays
public import proofs.«01_k».proof.Proof.Result
public import proofs.«01_k».proof.Proof.RefValue
public import proofs.«01_k».proof.Proof.Bounded
public import proofs.«01_k».proof.Proof.Frames
public import Idealize.ShloMosaic.Lib.Layout

@[expose] public section

noncomputable section

namespace Cert.Proof

open Idealize.ShloMosaic Idealize.SL.Sem Cert.KernelIdeal.Ring Cert.Moe
open Idealize.ShloMosaic.Pointwise

/-- Row `i` of device `c`'s rows, among all the rows. -/
abbrev at512 (c : Fin 32) (i : Fin 512) : Fin 16384 := ⟨c.val * 512 + i.val, by omega⟩

/-- Block `c` of an array of rows, at row `i`. -/
theorem block_rows {α : Type} {b : ℕ} (c : Fin 32) (v : (⟨2, ![16384, b]⟩ : Shape).Idx → α)
    (h : Layout.Tiles ⟨2, ![512, b]⟩ ⟨2, ![16384, b]⟩ 0 32) (i : Fin 512) (j : Fin b) :
    Layout.block ⟨2, ![512, b]⟩ ⟨2, ![16384, b]⟩ 0 32 c v h (ix2 i j) = v (ix2 (at512 c i) j) := by
  rw [Layout.block_apply]
  refine congrArg v (funext fun a => Fin.ext ?_)
  match a with
  | ⟨0, _⟩ => rfl
  | ⟨1, _⟩ => rfl

/-- Block `c` of the expert matrices, at its matrix `k`: matrix `2·c + k`. -/
theorem block_experts {α : Type} (c : Fin 32) (v : (⟨3, ![64, 256, 512]⟩ : Shape).Idx → α)
    (h : Layout.Tiles ⟨3, ![2, 256, 512]⟩ ⟨3, ![64, 256, 512]⟩ 0 32) (k : Fin 2) (d : Fin 256) (f : Fin 512) :
    Layout.block ⟨3, ![2, 256, 512]⟩ ⟨3, ![64, 256, 512]⟩ 0 32 c v h (ix3 k d f) = v (ix3 ⟨2 * c.val + k.val, by omega⟩ d f) := by
  rw [Layout.block_apply]
  refine congrArg v (funext fun a => Fin.ext ?_)
  match a with
  | ⟨0, _⟩ => exact congrArg (· + k.val) (Nat.mul_comm c.val 2)
  | ⟨1, _⟩ => rfl
  | ⟨2, _⟩ => rfl

/-- The kernel's result is the reference's, block by block. -/
theorem equation : Cert.algebraic_KernelIdeal_ReferenceIdeal_pre_finite_KernelIdeal := by
  intro m ρ m' ρ' hpre hagree
  refine ⟨Cert.ReferenceIdeal.Value.res_main_v43 m' 0, ?_, ?_⟩
  · refine (θ_run Cert.KernelIdeal.defs _ _).mono (fun _ h c => ⟨(h.2.2 c).trans ?_, h.1 c⟩) (run_arrays (F := Ideal) m ρ)
    have hreal := real_of_finite _ _ _ _ _ (hpre c)
    rw [finalA_out]
    unfold outS
    rw [xS_eq, rS_eq, tS_eq, wS_eq]
    funext y
    rw [ValueIdx.eq_ix2 y]
    refine (result_apply (Wm m ρ) c (y 0) (y 1) _ _ _ _
      (fun e d f => m' (((0 : Dev Cert.ReferenceIdeal.nD).tc : Thread Cert.ReferenceIdeal.nD Cert.ReferenceIdeal.τ).loc Cert.ReferenceIdeal.main_arg3) (ix3 e d f))
      (fun o k d f => ?_) (fun k => hreal.1 _) (fun k e => hreal.2 _)).trans ?_
    · unfold Wm
      rw [mats_apply, eS_eq, (hagree o).2.2.2.1]
      exact block_experts o _ _ k d f
    · rw [(hagree c).1, (hagree c).2.1, (hagree c).2.2.1, (hagree c).2.2.2.2]
      refine Eq.trans ?_ ((Cert.ReferenceIdeal.Value.ref_apply m' (at512 c (y 0)) (y 1)).symm.trans (block_rows c _ _ (y 0) (y 1)).symm)
      exact congrArg₂ (fun v u => shared v _ (y 1) + routed v _ u _ (y 1)) (funext fun k => block_rows c _ _ (y 0) k) (block_rows c _ _ (y 0) 0)
  · exact (θ_run Cert.ReferenceIdeal.defs _ _).mono (fun _ h => h 0) (Cert.ReferenceIdeal.Value.run (F := Ideal) m' ρ')

end Cert.Proof

end
-- ==== Proof.lean ====
/-
# The certificate: the claims of Defs.lean, put together
-/
module

public import proofs.«01_k».proof.Proof.Frames
public import proofs.«01_k».proof.Proof.Equation
public import proofs.«01_k».proof.Proof.Gen.Pre_finite_KernelIdeal
public import proofs.«01_k».proof.Proof.Gen.Pre_finite_ReferenceIdeal
public import proofs.«01_k».proof.Defs

@[expose] public section

noncomputable section

namespace Cert.Proof

open Idealize.ShloMosaic Idealize.SL.Sem

/-- The programs' facts hold; each program ends, keeps its arguments and leaves every semaphore at zero, from any memory
    and so from one the precondition holds of; the ideal program is the kernel, no operation rewritten; and where the
    precondition holds the kernel's result is the reference's. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, fun m ρ _ => frame_ideal m ρ trivial, frame_reference, fun m ρ _ => frame_reference m ρ trivial,
  trivial, equation⟩

end Cert.Proof

end
